-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_gate_in_unit_interval [hPre_finite_inputs_gate_in_unit_interval : Cert.Pre_finite_inputs_gate_in_unit_interval.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_gate_in_unit_interval.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs_gate_in_unit_interval.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs_gate_in_unit_interval.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs_gate_in_unit_interval.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_gate_in_unit_interval [hPre_finite_inputs_gate_in_unit_interval : Cert.Pre_finite_inputs_gate_in_unit_interval.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_gate_in_unit_interval.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs_gate_in_unit_interval.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs_gate_in_unit_interval.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs_gate_in_unit_interval.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs_gate_in_unit_interval [hKernelIdeal : Cert.KernelIdeal.Facts] [hPre_finite_inputs_gate_in_unit_interval : Cert.Pre_finite_inputs_gate_in_unit_interval.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_gate_in_unit_interval m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs_gate_in_unit_interval [hReferenceIdeal : Cert.ReferenceIdeal.Facts] [hPre_finite_inputs_gate_in_unit_interval : Cert.Pre_finite_inputs_gate_in_unit_interval.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_gate_in_unit_interval m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs_gate_in_unit_interval [hKernelIdeal : Cert.KernelIdeal.Facts] [hReferenceIdeal : Cert.ReferenceIdeal.Facts] [hPre_finite_inputs_gate_in_unit_interval : Cert.Pre_finite_inputs_gate_in_unit_interval.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_gate_in_unit_interval m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_5) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_gate_in_unit_interval : Cert.Pre_finite_inputs_gate_in_unit_interval.Facts),
    quiescent_Kernel (hKernel := hKernel)
    ∧ quiescent_KernelIdeal (hKernelIdeal := hKernelIdeal)
    ∧ quiescent_KernelIdeal_pre_finite_inputs_gate_in_unit_interval (hKernelIdeal := hKernelIdeal) (hPre_finite_inputs_gate_in_unit_interval := hPre_finite_inputs_gate_in_unit_interval)
    ∧ quiescent_ReferenceIdeal (hReferenceIdeal := hReferenceIdeal)
    ∧ quiescent_ReferenceIdeal_pre_finite_inputs_gate_in_unit_interval (hReferenceIdeal := hReferenceIdeal) (hPre_finite_inputs_gate_in_unit_interval := hPre_finite_inputs_gate_in_unit_interval)
    ∧ preserves_Kernel_KernelIdeal
    ∧ algebraic_KernelIdeal_ReferenceIdeal_pre_finite_inputs_gate_in_unit_interval (hKernelIdeal := hKernelIdeal) (hReferenceIdeal := hReferenceIdeal) (hPre_finite_inputs_gate_in_unit_interval := hPre_finite_inputs_gate_in_unit_interval)
-- ==== Pre_finite_inputs_gate_in_unit_interval.lean ====
abbrev S2048x32x512 : Shape := ⟨3, ![2048, 32, 512]⟩
abbrev S512x512 : Shape := ⟨2, ![512, 512]⟩
abbrev S512 : Shape := ⟨1, ![512]⟩
abbrev S_ : Shape := ⟨0, ![]⟩

class Facts : Prop where
  bcast_S_S512 : S_.BroadcastsInDim S512 (![] : Fin 0 → Fin S512.rank)
  bcast_S_S2048x32x512 : S_.BroadcastsInDim S2048x32x512 (![] : Fin 0 → Fin S2048x32x512.rank)
  bcast_S_S512x512 : S_.BroadcastsInDim S512x512 (![] : Fin 0 → Fin S512x512.rank)

variable [Facts]

def fn {F : FTy → Type} [FloatOps F] (main_arg0 : FVec F S2048x32x512 .f32) (main_arg1 : FVec F S512x512 .f32) (main_arg2 : FVec F S512 .f32) (main_arg3 : FVec F S512 .f32) : IVec S2048x32x512 1 × IVec S512x512 1 × IVec S512 1 × IVec S512 1 :=
  let main_cst : FVec F S_ .f32 := constant S_ .f32 0x00000000#32
  let main_v0 : FVec F S512 .f32 := broadcastInDim S512 ![] bcast_S_S512 main_cst
  let main_v1 : IVec S512 1 := cmpf .oge main_arg3 main_v0
  let main_cst_0 : FVec F S_ .f32 := constant S_ .f32 0x3F800000#32
  let main_v2 : FVec F S512 .f32 := broadcastInDim S512 ![] bcast_S_S512 main_cst_0
  let main_v3 : IVec S512 1 := cmpf .ole main_arg3 main_v2
  let main_v4 : IVec S512 1 := andi main_v1 main_v3
  let main_v5 : FVec F S2048x32x512 .f32 := subf main_arg0 main_arg0
  let main_cst_1 : FVec F S_ .f32 := constant S_ .f32 0x00000000#32
  let main_v6 : FVec F S2048x32x512 .f32 := broadcastInDim S2048x32x512 ![] bcast_S_S2048x32x512 main_cst_1
  let main_v7 : IVec S2048x32x512 1 := cmpf .oeq main_v5 main_v6
  let main_v8 : FVec F S512x512 .f32 := subf main_arg1 main_arg1
  let main_cst_2 : FVec F S_ .f32 := constant S_ .f32 0x00000000#32
  let main_v9 : FVec F S512x512 .f32 := broadcastInDim S512x512 ![] bcast_S_S512x512 main_cst_2
  let main_v10 : IVec S512x512 1 := cmpf .oeq main_v8 main_v9
  let main_v11 : FVec F S512 .f32 := subf main_arg2 main_arg2
  let main_cst_3 : FVec F S_ .f32 := constant S_ .f32 0x00000000#32
  let main_v12 : FVec F S512 .f32 := broadcastInDim S512 ![] bcast_S_S512 main_cst_3
  let main_v13 : IVec S512 1 := cmpf .oeq main_v11 main_v12
  (main_v7, main_v10, main_v13, main_v4)
-- ==== Kernel.lean ====
abbrev S2048x32x512 : Shape := ⟨3, ![2048, 32, 512]⟩
abbrev S512x512 : Shape := ⟨2, ![512, 512]⟩
abbrev S512 : Shape := ⟨1, ![512]⟩
abbrev S65536x512 : Shape := ⟨2, ![65536, 512]⟩
abbrev S1x512 : Shape := ⟨2, ![1, 512]⟩
abbrev S32x1024 : Shape := ⟨2, ![32, 1024]⟩
abbrev S4096x512 : Shape := ⟨2, ![4096, 512]⟩
abbrev S128x32x512 : Shape := ⟨3, ![128, 32, 512]⟩
abbrev S32x512 : Shape := ⟨2, ![32, 512]⟩
abbrev S1x128 : Shape := ⟨2, ![1, 128]⟩
abbrev S32x128 : Shape := ⟨2, ![32, 128]⟩
abbrev S1x32x128 : Shape := ⟨3, ![1, 32, 128]⟩

abbrev nBuf : Space → Nat
  | .hbm => 10
  | .vmem => 11
  | .smem => 0
  | _ => 0

abbrev bufTy : (tb : Table) → Fin (tcTables nBuf tb) → BufTy
  | .hbm, ⟨0, _⟩ => ⟨S2048x32x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S65536x512, .f32⟩
  | .hbm, ⟨5, _⟩ => ⟨S512x512, .f32⟩
  | .hbm, ⟨6, _⟩ => ⟨S1x512, .f32⟩
  | .hbm, ⟨7, _⟩ => ⟨S1x512, .f32⟩
  | .hbm, ⟨8, _⟩ => ⟨S2048x32x512, .f32⟩
  | .hbm, ⟨9, _⟩ => ⟨S32x1024, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S128x32x512, .f32⟩
  | .local _ .vmem, ⟨6, _⟩ => ⟨S128x32x512, .f32⟩
  | .local _ .vmem, ⟨7, _⟩ => ⟨S32x1024, .f32⟩
  | .local _ .vmem, ⟨8, _⟩ => ⟨S4096x512, .f32⟩
  | .local _ .vmem, ⟨9, _⟩ => ⟨S32x512, .f32⟩
  | .local _ .vmem, ⟨10, _⟩ => ⟨S32x512, .f32⟩
  | _, _ => ⟨S2048x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2048x32x512 : Shape := ⟨3, ![2048, 32, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S32x512 : Shape := ⟨2, ![32, 512]⟩
abbrev S1x32x512 : Shape := ⟨3, ![1, 32, 512]⟩
abbrev S1x512 : Shape := ⟨2, ![1, 512]⟩
abbrev S32x1024 : Shape := ⟨2, ![32, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x32x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S2048x32x512, .f32⟩
  | .hbm, ⟨5, _⟩ => ⟨S1x1x512, .f32⟩
  | .hbm, ⟨6, _⟩ => ⟨S2048x32x512, .f32⟩
  | .hbm, ⟨7, _⟩ => ⟨S2048x32x512, .f32⟩
  | .hbm, ⟨8, _⟩ => ⟨S_, .f32⟩
  | .hbm, ⟨9, _⟩ => ⟨S32x512, .f32⟩
  | .hbm, ⟨10, _⟩ => ⟨S_, .f32⟩
  | .hbm, ⟨11, _⟩ => ⟨S32x512, .f32⟩
  | .hbm, ⟨12, _⟩ => ⟨S_, .f32⟩
  | .hbm, ⟨13, _⟩ => ⟨S2048x32x512, .f32⟩
  | .hbm, ⟨14, _⟩ => ⟨S_, .i32⟩
  | .hbm, ⟨15, _⟩ => ⟨S2048x32x512, .f32⟩
  | .hbm, ⟨16, _⟩ => ⟨S512, .f32⟩
  | .hbm, ⟨17, _⟩ => ⟨S_, .i32⟩
  | .hbm, ⟨18, _⟩ => ⟨S32x512, .f32⟩
  | .hbm, ⟨19, _⟩ => ⟨S32x512, .f32⟩
  | .hbm, ⟨20, _⟩ => ⟨S2048x32x512, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x32x512, .f32⟩
  | .hbm, ⟨26, _⟩ => ⟨S32x512, .f32⟩
  | .hbm, ⟨27, _⟩ => ⟨S32x512, .f32⟩
  | .hbm, ⟨28, _⟩ => ⟨S_, .f32⟩
  | .hbm, ⟨29, _⟩ => ⟨S32x512, .f32⟩
  | .hbm, ⟨30, _⟩ => ⟨S32x512, .f32⟩
  | .hbm, ⟨31, _⟩ => ⟨S32x512, .f32⟩
  | .hbm, ⟨32, _⟩ => ⟨S32x512, .f32⟩
  | .hbm, ⟨33, _⟩ => ⟨S32x512, .f32⟩
  | .hbm, ⟨34, _⟩ => ⟨S1x512, .f32⟩
  | .hbm, ⟨35, _⟩ => ⟨S32x512, .f32⟩
  | .hbm, ⟨36, _⟩ => ⟨S32x512, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S1x512, .f32⟩
  | .hbm, ⟨41, _⟩ => ⟨S32x512, .f32⟩
  | .hbm, ⟨42, _⟩ => ⟨S32x512, .f32⟩
  | .hbm, ⟨43, _⟩ => ⟨S32x512, .f32⟩
  | .hbm, ⟨44, _⟩ => ⟨S32x512, .f32⟩
  | .hbm, ⟨45, _⟩ => ⟨S1x512, .f32⟩
  | .hbm, ⟨46, _⟩ => ⟨S32x512, .f32⟩
  | .hbm, ⟨47, _⟩ => ⟨S32x512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S1x512, .f32⟩
  | .hbm, ⟨52, _⟩ => ⟨S32x512, .f32⟩
  | .hbm, ⟨53, _⟩ => ⟨S32x512, .f32⟩
  | .hbm, ⟨54, _⟩ => ⟨S32x512, .f32⟩
  | .hbm, ⟨55, _⟩ => ⟨S1x32x512, .f32⟩
  | .hbm, ⟨56, _⟩ => ⟨S_, .i32⟩
  | .hbm, ⟨57, _⟩ => ⟨S_, .i32⟩
  | .hbm, ⟨58, _⟩ => ⟨S2048x32x512, .f32⟩
  | .hbm, ⟨59, _⟩ => ⟨S_, .i32⟩
  | .hbm, ⟨60, _⟩ => ⟨S_, .i32⟩
  | .hbm, ⟨61, _⟩ => ⟨S32x1024, .f32⟩
  | _, _ => ⟨S2048x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_c : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_while0c_c_7 : Ref sig .tc := ⟨.hbm, 21, rfl⟩
abbrev main_while0c_v9 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v9 : Ref sig .tc := ⟨.hbm, 26, rfl⟩
abbrev main_while0b_v10 : Ref sig .tc := ⟨.hbm, 27, rfl⟩
abbrev main_while0b_cst_7 : Ref sig .tc := ⟨.hbm, 28, rfl⟩
abbrev main_while0b_v11 : Ref sig .tc := ⟨.hbm, 29, rfl⟩
abbrev main_while0b_v12 : Ref sig .tc := ⟨.hbm, 30, rfl⟩
abbrev main_while0b_v13 : Ref sig .tc := ⟨.hbm, 31, rfl⟩
abbrev main_while0b_v14 : Ref sig .tc := ⟨.hbm, 32, rfl⟩
abbrev main_while0b_v15 : Ref sig .tc := ⟨.hbm, 33, rfl⟩
abbrev main_while0b_v16 : Ref sig .tc := ⟨.hbm, 34, rfl⟩
abbrev main_while0b_v17 : Ref sig .tc := ⟨.hbm, 35, rfl⟩
abbrev main_while0b_v18 : Ref sig .tc := ⟨.hbm, 36, rfl⟩
abbrev main_while0b_cst_8 : Ref sig .tc := ⟨.hbm, 37, rfl⟩
abbrev main_while0b_v19 : Ref sig .tc := ⟨.hbm, 38, rfl⟩
abbrev main_while0b_v20 : Ref sig .tc := ⟨.hbm, 39, rfl⟩
abbrev main_while0b_v21 : Ref sig .tc := ⟨.hbm, 40, rfl⟩
abbrev main_while0b_v22 : Ref sig .tc := ⟨.hbm, 41, rfl⟩
abbrev main_while0b_v23 : Ref sig .tc := ⟨.hbm, 42, rfl⟩
abbrev main_while0b_v24 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_v28 : Ref sig .tc := ⟨.hbm, 47, rfl⟩
abbrev main_while0b_cst_9 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_call1_v0 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_v35 : Ref sig .tc := ⟨.hbm, 58, rfl⟩
abbrev main_while0b_c_10 : Ref sig .tc := ⟨.hbm, 59, rfl⟩
abbrev main_while0b_v36 : Ref sig .tc := ⟨.hbm, 60, rfl⟩
abbrev main_v8 : Ref sig .tc := ⟨.hbm, 61, rfl⟩

abbrev nD : Nat := 1
abbrev τ : Topo := Topo.v7x

variable {F : FTy → Type} [FloatOps F]

abbrev main_while0_count : Scf.Loop 32 := ⟨0#32, 2048#32, 1#32⟩
-- ==== Proof.Pieces.lean ====
/- What one grid point stores, told by recursion.

   A grid point projects its 128 rows of the sequence eight chunks of 512 matrix rows at a time, and between two chunks
   runs 16 steps of the recurrence on each of the four strips of 128 features. The run of the body finds the stores one
   by one; the definitions here are the same stores by recursion on the chunk (`projPieces`), on the step
   (`meanAt`, `varAt`) and on the store (`outPieces`). -/
module

public import proofs.«01_k».proof.Proof.Gen.KernelIdeal.Frame.Runs

@[expose] public section

noncomputable section

namespace Cert.Norm.Blk

open Idealize.ShloMosaic Idealize.ShloMosaic.TcCoe
open Cert.KernelIdeal Cert.KernelIdeal.Gen

variable {F : FTy → Type} [FloatOps F]

/-! ## The rectangles -/

/-- Chunk `k`: 512 rows of the 4096 of a point. -/
abbrev chunkRect (k : ℕ) : Rect S4096x512 :=
  Rect.unit ![512 * (k % 8), 0] S512x512.size (fun a => by
    have := Nat.mod_lt k (show 0 < 8 by decide)
    fin_cases a <;> simp <;> omega)

/-- The 32 batch rows of step `t`, strip `h`. -/
abbrev stepRect (t h : ℕ) : Rect S4096x512 :=
  Rect.unit ![32 * (t % 128), 128 * (h % 4)] S32x128.size (fun a => by
    have := Nat.mod_lt t (show 0 < 128 by decide)
    have := Nat.mod_lt h (show 0 < 4 by decide)
    fin_cases a <;> simp <;> omega)

/-- Where step `t` writes strip `h` of its row of the result. -/
abbrev outRect (t h : ℕ) : Rect S128x32x512 :=
  Rect.unit ![t % 128, 0, 128 * (h % 4)] S1x32x128.size (fun a => by
    have := Nat.mod_lt t (show 0 < 128 by decide)
    have := Nat.mod_lt h (show 0 < 4 by decide)
    fin_cases a <;> simp <;> omega)

/-- Strip `h` of a carried array. -/
abbrev stripRect (h : ℕ) : Rect S32x512 :=
  Rect.unit ![0, 128 * (h % 4)] S32x128.size (fun a => by
    have := Nat.mod_lt h (show 0 < 4 by decide)
    fin_cases a <;> simp <;> omega)

/-- Strip `h` of a row of features. -/
abbrev laneRect (h : ℕ) : Rect S1x512 :=
  Rect.unit ![0, 128 * (h % 4)] S1x128.size (fun a => by
    have := Nat.mod_lt h (show 0 < 4 by decide)
    fin_cases a <;> simp <;> omega)

/-- Strip `p` of the second result: 0 to 3 the mean's, 4 to 7 the variance's. -/
abbrev hidRect (p : ℕ) : Rect S32x1024 :=
  Rect.unit ![0, 128 * (p % 8)] S32x128.size (fun a => by
    have := Nat.mod_lt p (show 0 < 8 by decide)
    fin_cases a <;> simp <;> omega)

/-! ## The values -/

/-- One chunk's projection: the chunk times the transposed weight. -/
def project (w x : Vec F S512x512 .f32) : FVec F S512x512 .f32 :=
  shapeCast S512x512 (matmul dot_S512x512_S512x512_S512x512_1_0_0_1_n_n none
    (shapeCast S512x512 x shapeCasts_S512x512_S512x512 : FVec F S512x512 .f32)
    (shapeCast S512x512 w shapeCasts_S512x512_S512x512 : FVec F S512x512 .f32)
    (constant S512x512 .f32 0x00000000#32)) shapeCasts_S512x512_S512x512

/-- A strip of features along the batch. -/
def along (v : Vec F S1x128 .f32) : FVec F S32x128 .f32 :=
  broadcastTo S32x128 (shapeCast S1x128 (shapeCast S1x128 v shapeCasts_S1x128_S1x128 : FVec F S1x128 .f32)
    shapeCasts_S1x128_S1x128 : FVec F S1x128 .f32) broadcasts_S1x128_S32x128

/-- A step's new mean. -/
def meanStep (f y m : FVec F S32x128 .f32) : FVec F S32x128 .f32 := addf m (mulf f (subf y m))

/-- A step's new variance. -/
def varStep (f y m v : FVec F S32x128 .f32) : FVec F S32x128 .f32 :=
  addf v (mulf f (subf (mulf (subf y m) (subf y m)) v))

/-- What a step writes. -/
def written (y m v : FVec F S32x128 .f32) : FVec F S32x128 .f32 :=
  tanh (mulf (subf y m) (rsqrt (addf v (broadcast S32x128 (Scalar.ofBits .f32 0x38D1B717#32 : F .f32)))))

/-- The mean of a strip before step `n`. -/
def meanAt (f : FVec F S32x128 .f32) (y : ℕ → FVec F S32x128 .f32) (m₀ : FVec F S32x128 .f32) (n : ℕ) : FVec F S32x128 .f32 :=
  Nat.rec m₀ (fun t m => meanStep f (y t) m) n

/-- The variance of a strip before step `n`. -/
def varAt (f : FVec F S32x128 .f32) (y : ℕ → FVec F S32x128 .f32) (m₀ v₀ : FVec F S32x128 .f32) (n : ℕ) : FVec F S32x128 .f32 :=
  Nat.rec v₀ (fun t v => varStep f (y t) (meanAt f y m₀ t) v) n

/-! ## The stores -/

/-- The projections of the first `n` chunks, last first. -/
def projPieces (w : Vec F S512x512 .f32) (x : ℕ → Vec F S512x512 .f32) (n : ℕ) : List (View.Piece (Elt F) S4096x512 .f32) :=
  Nat.rec [] (fun k L => ⟨chunkRect k, project w (x k)⟩ :: L) n

/-- The step of store number `s`: sixteen steps of a strip, strip after strip, then the next sixteen. -/
abbrev stepOf (s : ℕ) : ℕ := 16 * (s / 64) + s % 16

/-- The strip of store number `s`. -/
abbrev stripOf (s : ℕ) : ℕ := s / 16 % 4

/-- The first `n` stores into the result's block, last first. -/
def outPieces (f : ℕ → FVec F S32x128 .f32) (y : ℕ → ℕ → FVec F S32x128 .f32) (m₀ v₀ : ℕ → FVec F S32x128 .f32) (n : ℕ) :
    List (View.Piece (Elt F) S128x32x512 .f32) :=
  Nat.rec [] (fun s L => ⟨outRect (stepOf s) (stripOf s),
    shapeCast S1x32x128 (written (y (stripOf s) (stepOf s)) (meanAt (f (stripOf s)) (y (stripOf s)) (m₀ (stripOf s)) (stepOf s))
      (varAt (f (stripOf s)) (y (stripOf s)) (m₀ (stripOf s)) (v₀ (stripOf s)) (stepOf s))) shapeCasts_S32x128_S1x32x128⟩ :: L) n

/-- The stores of the first `n` strips into a carried array, last first, over `L₀`. -/
def stripPieces (v : ℕ → FVec F S32x128 .f32) (L₀ : List (View.Piece (Elt F) S32x512 .f32)) (n : ℕ) :
    List (View.Piece (Elt F) S32x512 .f32) :=
  Nat.rec L₀ (fun h L => ⟨stripRect h, shapeCast S32x128 (v h) shapeCasts_S32x128_S32x128⟩ :: L) n

/-- A strip of the second result's mean: the carried mean plus the bias. -/
def biased (m : FVec F S32x128 .f32) (b : Vec F S1x128 .f32) : FVec F S32x128 .f32 :=
  addf m (broadcastTo S32x128 (shapeCast S1x128 b shapeCasts_S1x128_S1x128 : FVec F S1x128 .f32) broadcasts_S1x128_S32x128)

/-- The stores of the first `n` strips into the second result, last first. -/
def hidPieces (m v : ℕ → FVec F S32x128 .f32) (b : ℕ → Vec F S1x128 .f32) (n : ℕ) : List (View.Piece (Elt F) S32x1024 .f32) :=
  Nat.rec [] (fun h L => ⟨hidRect (4 + h), v h⟩ :: ⟨hidRect h, biased (m h) (b h)⟩ :: L) n

/-! ## What they are made of at a point -/

variable (arg1 : Memref sig .tc .vmem S4096x512 .f32) (harg1 : arg1.IsWhole) (arg2 : Memref sig .tc .vmem S512x512 .f32)
  (harg2 : arg2.IsWhole) (arg3 : Memref sig .tc .vmem S1x512 .f32) (harg3 : arg3.IsWhole)
  (arg4 : Memref sig .tc .vmem S1x512 .f32) (harg4 : arg4.IsWhole) (arg7 : Memref sig .tc .vmem S4096x512 .f32)
  (x0 : Vec F S4096x512 .f32) (x1 : Vec F S512x512 .f32) (x2 x3 : Vec F S1x512 .f32)

/-- The transposed weight, read whole. -/
abbrev weightRead : Vec F S512x512 .f32 :=
  View.readAt (Elt F) arg2.view (Rect.unit ![0, 0] S512x512.size inb_S512x512_S512x512_0_0).toLoadRect (harg2.unread x1)

/-- Chunk `k` of the point's rows. -/
abbrev chunkRead (k : ℕ) : Vec F S512x512 .f32 :=
  View.readAt (Elt F) arg1.view (chunkRect k).toLoadRect (harg1.unread x0)

/-- The projection of step `t`, strip `h`, read from what the chunks so far left. -/
abbrev stepRead (h t : ℕ) : FVec F S32x128 .f32 :=
  arg7.view.readCov (projPieces (weightRead arg2 harg2 x1) (chunkRead arg1 harg1 x0) (t / 16 + 1)) (stepRect t h).toLoadRect

/-- Strip `h` of a row of features. -/
abbrev laneRead (arg : Memref sig .tc .vmem S1x512 .f32) (harg : arg.IsWhole) (x : Vec F S1x512 .f32) (h : ℕ) : Vec F S1x128 .f32 :=
  View.readAt (Elt F) arg.view (laneRect h).toLoadRect (harg.unread x)

/-- The gate of strip `h`. -/
abbrev gateRead (h : ℕ) : FVec F S32x128 .f32 := along (laneRead arg4 harg4 x3 h)

/-- What the first point stores into the carried mean before anything else: 0 less the bias. -/
def meanInit : List (View.Piece (Elt F) S32x512 .f32) :=
  [⟨Rect.unit ![0, 0] S32x512.size inb_S32x512_S32x512_0_0,
    k0_pay5 (View.readAt (Elt F) arg3.view (Rect.unit ![0, 0] S1x512.size inb_S1x512_S1x512_0_0).toLoadRect (harg3.unread x2))⟩]

/-- And into the carried variance: 1. -/
def varInit : List (View.Piece (Elt F) S32x512 .f32) :=
  [⟨Rect.unit ![0, 0] S32x512.size inb_S32x512_S32x512_0_0, k0_pay6⟩]

end Cert.Norm.Blk

end
-- ==== Proof.Recurrence.lean ====
/- The recurrence of the temporal normalisation, at one (batch row, feature), over the extended reals.

   Two spellings of one step stand here. The reference keeps the running mean `μ` of the biased projection `z + β`
   and mixes with weights `f` and `1 - f`; the kernel keeps `μ - β`, reads the unbiased projection `z`, and moves by
   `f` times a difference. Both run on extended reals, where the two spellings need not agree at an infinity. With
   finite inputs and a gate between 0 and 1 every value is a real number and the running variance never turns
   negative, so the square root under the quotient is a positive real, and the two agree (`kernel_state_eq`,
   `kernel_out_eq`). -/
module

public import Idealize.ShloMosaic.Lib.IdealHost

@[expose] public section

noncomputable section

namespace Cert.Norm

open Idealize.ShloMosaic

/-- The constant added under the square root: the real number its 32-bit word denotes. -/
abbrev eps : EReal := Ideal.ofBits .f32 0x38D1B717#32

/-- It is a positive real number. -/
theorem eps_real : ∃ e : ℝ, 0 < e ∧ eps = (e : EReal) := by
  refine ⟨(13743895 : ℝ) * (2 : ℝ) ^ (-37 : ℤ), by positivity, ?_⟩
  simp [eps, Ideal.ofBits, Ideal.ieee]

/-! ## The two spellings -/

/-- A running mean and a running variance. -/
abbrev Pair := EReal × EReal

/-- The kernel's step: each component moves by `f` times its distance from the new value. -/
def kStep (f y : EReal) (s : Pair) : Pair :=
  (s.1 + f * (y - s.1), s.2 + f * ((y - s.1) * (y - s.1) - s.2))

/-- What the kernel writes at a step, from the state before it. -/
def kOut (y : EReal) (s : Pair) : EReal := Ideal.tanh ((y - s.1) * Ideal.rsqrt (s.2 + eps))

/-- The kernel's state after `n` steps over the projections `y`, from the state `s₀`. -/
def kState (f : EReal) (y : ℕ → EReal) (s₀ : Pair) : ℕ → Pair
  | 0 => s₀
  | n + 1 => kStep f (y n) (kState f y s₀ n)

/-- The reference's step: a mixture with weights `f` and `1 - f`. -/
def rStep (f y : EReal) (s : Pair) : Pair :=
  (f * y + (1 - f) * s.1, f * ((y - s.1) * (y - s.1)) + (1 - f) * s.2)

/-- What the reference writes at a step, from the state before it. -/
def rOut (y : EReal) (s : Pair) : EReal := Ideal.tanh (Ideal.div (y - s.1) (Ideal.sqrt (s.2 + eps)))

/-- The reference's state after `n` steps, from mean 0 and variance 1. -/
def rState (f : EReal) (y : ℕ → EReal) : ℕ → Pair
  | 0 => (0, 1)
  | n + 1 => rStep f (y n) (rState f y n)

/-! ## Both are real -/

variable {φ β : ℝ} {z : ℕ → ℝ}

/-- With real inputs and a gate in [0, 1], after any number of steps the two states are real, the kernel's mean is the
    reference's less the bias, the variances are equal, and they are not negative. -/
theorem states_real (h0 : 0 ≤ φ) (h1 : φ ≤ 1) (n : ℕ) : ∃ μ v : ℝ, 0 ≤ v
    ∧ rState (φ : EReal) (fun k => (z k : EReal) + (β : EReal)) n = ((μ : EReal), (v : EReal))
    ∧ kState (φ : EReal) (fun k => (z k : EReal)) (0 - (β : EReal), 1) n = (((μ - β : ℝ) : EReal), (v : EReal)) := by
  induction n with
  | zero => exact ⟨0, 1, zero_le_one, by simp [rState], by simp [kState]⟩
  | succ n ih =>
    obtain ⟨μ, v, hv, hr, hk⟩ := ih
    refine ⟨φ * (z n + β) + (1 - φ) * μ, φ * ((z n + β - μ) * (z n + β - μ)) + (1 - φ) * v, ?_, ?_, ?_⟩
    · exact add_nonneg (mul_nonneg h0 (mul_self_nonneg _)) (mul_nonneg (by linarith) hv)
    · simp only [rState, hr, rStep]
      norm_cast
    · simp only [kState, hk, kStep]
      refine Prod.ext ?_ ?_
      · show (((μ - β : ℝ) : EReal)) + (φ : EReal) * ((z n : EReal) - ((μ - β : ℝ) : EReal)) = _
        norm_cast
        ring_nf
      · show (v : EReal) + (φ : EReal) * (((z n : EReal) - ((μ - β : ℝ) : EReal)) * ((z n : EReal) - ((μ - β : ℝ) : EReal)) - (v : EReal)) = _
        norm_cast
        ring_nf

/-- The kernel's state with the bias added back to its mean is the reference's state. -/
theorem kernel_state_eq (h0 : 0 ≤ φ) (h1 : φ ≤ 1) (n : ℕ) :
    ((kState (φ : EReal) (fun k => (z k : EReal)) (0 - (β : EReal), 1) n).1 + (β : EReal),
      (kState (φ : EReal) (fun k => (z k : EReal)) (0 - (β : EReal), 1) n).2)
    = rState (φ : EReal) (fun k => (z k : EReal) + (β : EReal)) n := by
  obtain ⟨μ, v, -, hr, hk⟩ := states_real (z := z) (β := β) h0 h1 n
  rw [hr, hk]
  refine Prod.ext ?_ rfl
  show ((μ - β : ℝ) : EReal) + (β : EReal) = (μ : EReal)
  norm_cast
  ring

/-- What the kernel writes at a step is what the reference writes at it. -/
theorem kernel_out_eq (h0 : 0 ≤ φ) (h1 : φ ≤ 1) (n : ℕ) :
    kOut (z n : EReal) (kState (φ : EReal) (fun k => (z k : EReal)) (0 - (β : EReal), 1) n)
    = rOut ((z n : EReal) + (β : EReal)) (rState (φ : EReal) (fun k => (z k : EReal) + (β : EReal)) n) := by
  obtain ⟨μ, v, hv, hr, hk⟩ := states_real (z := z) (β := β) h0 h1 n
  obtain ⟨e, he, heps⟩ := eps_real
  have hp : 0 < v + e := by linarith
  have hs : 0 < Real.sqrt (v + e) := Real.sqrt_pos.mpr hp
  rw [hr, hk]
  simp only [kOut, rOut, heps]
  congr 1
  rw [← EReal.coe_add, ← EReal.coe_add, ← EReal.coe_sub, ← EReal.coe_sub]
  show _ * (if v + e < 0 then (⊥ : EReal) else if v + e = 0 then ⊤ else (((Real.sqrt (v + e))⁻¹ : ℝ) : EReal))
    = Ideal.div _ (if v + e < 0 then (⊥ : EReal) else (Real.sqrt (v + e) : EReal))
  rw [if_neg (not_lt.mpr hp.le), if_neg hp.ne', if_neg (not_lt.mpr hp.le), Ideal.div,
    if_neg (by exact_mod_cast hs.ne')]
  rw [← EReal.coe_inv, ← EReal.coe_mul, ← EReal.coe_mul]
  congr 2
  ring

end Cert.Norm

end
-- ==== Proof.Block.lean ====
/- What one grid point stores, read index by index.

   The lists of Pieces.lean are read at an index: a row of a chunk's store is a sum of products (`stepRead_apply`), a row
   of the result's block is what the recurrence writes at its step (`outPieces_apply`), and a carried array holds the
   recurrence's state after the point's steps (`stripPieces_apply`, `hidPieces_apply`). -/
module

public import proofs.«01_k».proof.Proof.Pieces
public import proofs.«01_k».proof.Proof.Recurrence
public import Idealize.ShloMosaic.Lib.Pointwise
public import Idealize.ShloMosaic.Lib.WholeRead
public import Idealize.ShloMosaic.Lib.Pipeline.FrameBody
public import Idealize.ShloMosaic.Lib.Pipeline.ValueKit.Basic
public import Idealize.ShloMosaic.Lib.Pipeline.ValueKit.Geometry

@[expose] public section

noncomputable section

namespace Cert.Norm.Blk

open Idealize.ShloMosaic Idealize.ShloMosaic.TcCoe
open Cert.KernelIdeal Cert.KernelIdeal.Gen

/-! ## Places -/

/-- The strip of a feature. -/
abbrev strip (q : Fin 512) : ℕ := q.val / 128

/-- The lane of a feature in its strip. -/
abbrev lane (q : Fin 512) : Fin 128 := ⟨q.val % 128, Nat.mod_lt _ (by decide)⟩

/-- The row of step `t`, batch row `b`, in a point's 4096 rows. -/
abbrev rowOf (t : Fin 128) (b : Fin 32) : Fin 4096 := ⟨32 * t.val + b.val, by omega⟩

theorem chunk_place (k : ℕ) (r : Fin 4096) (q : Fin 512) (hr : r.val / 512 = k) :
    (chunkRect k).emb (ix2 (⟨r.val % 512, Nat.mod_lt _ (by decide)⟩ : Fin 512) q) = ix2 r q := by
  funext a; apply Fin.ext; rw [ValueKit.rect_emb_unit_val]
  fin_cases a
  · show 512 * (k % 8) + r.val % 512 = r.val; omega
  · show 0 + q.val = q.val; omega

theorem step_place (t : Fin 128) (b : Fin 32) (q : Fin 512) :
    (stepRect t.val (strip q)).emb (ix2 b (lane q)) = ix2 (rowOf t b) q := by
  funext a; apply Fin.ext; rw [ValueKit.rect_emb_unit_val]
  fin_cases a
  · show 32 * (t.val % 128) + b.val = 32 * t.val + b.val; omega
  · show 128 * (q.val / 128 % 4) + q.val % 128 = q.val; omega

theorem out_place (t : Fin 128) (b : Fin 32) (q : Fin 512) :
    (outRect t.val (strip q)).emb (ix3 (0 : Fin 1) b (lane q)) = ix3 t b q := by
  funext a; apply Fin.ext; rw [ValueKit.rect_emb_unit_val]
  fin_cases a
  · show t.val % 128 + 0 = t.val; omega
  · show 0 + b.val = b.val; omega
  · show 128 * (q.val / 128 % 4) + q.val % 128 = q.val; omega

theorem strip_place (b : Fin 32) (q : Fin 512) : (stripRect (strip q)).emb (ix2 b (lane q)) = ix2 b q := by
  funext a; apply Fin.ext; rw [ValueKit.rect_emb_unit_val]
  fin_cases a
  · show 0 + b.val = b.val; omega
  · show 128 * (q.val / 128 % 4) + q.val % 128 = q.val; omega

theorem lane_place (q : Fin 512) : (laneRect (strip q)).emb (ix2 (0 : Fin 1) (lane q)) = ix2 (0 : Fin 1) q := by
  funext a; apply Fin.ext; rw [ValueKit.rect_emb_unit_val]
  fin_cases a
  · rfl
  · show 128 * (q.val / 128 % 4) + q.val % 128 = q.val; omega

/-- Column `512 p + q` of the second result. -/
abbrev hidCol (p : Fin 2) (q : Fin 512) : Fin 1024 := ⟨512 * p.val + q.val, by omega⟩

theorem hid_place (p : Fin 2) (b : Fin 32) (q : Fin 512) :
    (hidRect (4 * p.val + strip q)).emb (ix2 b (lane q)) = ix2 b (hidCol p q) := by
  funext a; apply Fin.ext; rw [ValueKit.rect_emb_unit_val]
  fin_cases a
  · show 0 + b.val = b.val; omega
  · show 128 * ((4 * p.val + q.val / 128) % 8) + q.val % 128 = 512 * p.val + q.val; omega

theorem not_mem_chunk (k : ℕ) (hk : k < 8) (r : Fin 4096) (q : Fin 512) (hr : r.val / 512 ≠ k) :
    (ix2 r q : S4096x512.Idx) ∉ (chunkRect k).set := fun h => by
  have e : 512 * (k % 8) ≤ r.val ∧ r.val < 512 * (k % 8) + 512 := Rect.mem_set_unit.mp h 0
  omega

theorem not_mem_out (t' h' : ℕ) (ht : t' < 128) (hh : h' < 4) (t : Fin 128) (b : Fin 32) (q : Fin 512)
    (hne : t.val ≠ t' ∨ strip q ≠ h') : (ix3 t b q : S128x32x512.Idx) ∉ (outRect t' h').set := fun h => by
  have e : t' % 128 ≤ t.val ∧ t.val < t' % 128 + 1 := Rect.mem_set_unit.mp h 0
  have e' : 128 * (h' % 4) ≤ q.val ∧ q.val < 128 * (h' % 4) + 128 := Rect.mem_set_unit.mp h 2
  have : strip q = q.val / 128 := rfl
  omega

theorem not_mem_strip (h' : ℕ) (hh : h' < 4) (b : Fin 32) (q : Fin 512) (hne : strip q ≠ h') :
    (ix2 b q : S32x512.Idx) ∉ (stripRect h').set := fun h => by
  have e : 128 * (h' % 4) ≤ q.val ∧ q.val < 128 * (h' % 4) + 128 := Rect.mem_set_unit.mp h 1
  have : strip q = q.val / 128 := rfl
  omega

theorem not_mem_hid (p' : ℕ) (hp : p' < 8) (p : Fin 2) (b : Fin 32) (q : Fin 512) (hne : 4 * p.val + strip q ≠ p') :
    (ix2 b (hidCol p q) : S32x1024.Idx) ∉ (hidRect p').set := fun h => by
  have e : 128 * (p' % 8) ≤ 512 * p.val + q.val ∧ 512 * p.val + q.val < 128 * (p' % 8) + 128 := Rect.mem_set_unit.mp h 1
  have : strip q = q.val / 128 := rfl
  omega

/-! ## The lists at an index -/

section Lists

variable {F : FTy → Type} [FloatOps F]

/-- An index in the last store's rectangle holds what it stored. -/
theorem canon_hit {s : Shape} {e : EltTy} (r : Rect s) (w : r.shape.Idx → Elt F e) (L : List (View.Piece (Elt F) s e))
    (x : r.shape.Idx) (j : s.Idx) (h : r.emb x = j) : View.canon ((⟨r, w⟩ : View.Piece (Elt F) s e) :: L) j = w x := by
  subst h; exact View.canon_cons_emb r w L x

/-- An index off it holds what the earlier stores left. -/
theorem canon_skip {s : Shape} {e : EltTy} (r : Rect s) (w : r.shape.Idx → Elt F e) (L : List (View.Piece (Elt F) s e))
    (j : s.Idx) (h : j ∉ r.set) : View.canon ((⟨r, w⟩ : View.Piece (Elt F) s e) :: L) j = View.canon L j :=
  View.canon_cons_of_not_mem (⟨r, w⟩ : View.Piece (Elt F) s e) L h

/-- A row whose chunk has been projected holds its chunk's projection. -/
theorem projPieces_apply (w : Vec F S512x512 .f32) (x : ℕ → Vec F S512x512 .f32) (r : Fin 4096) (q : Fin 512) (n : ℕ)
    (hn : n ≤ 8) (hr : r.val / 512 < n) :
    View.canon (projPieces w x n) (ix2 r q)
      = project w (x (r.val / 512)) (ix2 (⟨r.val % 512, Nat.mod_lt _ (by decide)⟩ : Fin 512) q) := by
  induction n with
  | zero => omega
  | succ n ih =>
    rcases Nat.lt_or_ge (r.val / 512) n with h | h
    · exact (canon_skip (chunkRect n) (project w (x n)) (projPieces w x n) _ (not_mem_chunk n (by omega) r q (by omega))).trans
        (ih (by omega) h)
    · have e : r.val / 512 = n := by omega
      refine (canon_hit (chunkRect n) (project w (x n)) (projPieces w x n) _ _ (chunk_place n r q e)).trans ?_
      rw [e]

/-- What store `s` stores. -/
abbrev outPay (f : ℕ → FVec F S32x128 .f32) (y : ℕ → ℕ → FVec F S32x128 .f32) (m₀ v₀ : ℕ → FVec F S32x128 .f32)
    (t h : ℕ) : FVec F S32x128 .f32 :=
  written (y h t) (meanAt (f h) (y h) (m₀ h) t) (varAt (f h) (y h) (m₀ h) (v₀ h) t)

/-- A matrix stored as a block of one row, read back. -/
theorem asRow_apply (v : FVec F S32x128 .f32) (b : Fin 32) (l : Fin 128) :
    (shapeCast S1x32x128 v shapeCasts_S32x128_S1x32x128 : FVec F S1x32x128 .f32) (ix3 (0 : Fin 1) b l) = v (ix2 b l) := by
  pointwise

/-- A matrix stored as itself, read back. -/
theorem asSelf_apply (v : FVec F S32x128 .f32) (b : Fin 32) (l : Fin 128) :
    (shapeCast S32x128 v shapeCasts_S32x128_S32x128 : FVec F S32x128 .f32) (ix2 b l) = v (ix2 b l) := by
  pointwise

/-- A row of the result's block whose store has been made holds what its step writes. -/
theorem outPieces_apply (f : ℕ → FVec F S32x128 .f32) (y : ℕ → ℕ → FVec F S32x128 .f32) (m₀ v₀ : ℕ → FVec F S32x128 .f32)
    (t : Fin 128) (b : Fin 32) (q : Fin 512) (n : ℕ) (hn : n ≤ 512)
    (hs : 64 * (t.val / 16) + 16 * strip q + t.val % 16 < n) :
    View.canon (outPieces f y m₀ v₀ n) (ix3 t b q) = outPay f y m₀ v₀ t.val (strip q) (ix2 b (lane q)) := by
  induction n with
  | zero => omega
  | succ s ih =>
    have hq : strip q < 4 := by have := q.isLt; show q.val / 128 < 4; omega
    have ht := t.isLt
    rcases Nat.lt_or_ge (64 * (t.val / 16) + 16 * strip q + t.val % 16) s with h | h
    · have hne : t.val ≠ stepOf s ∨ strip q ≠ stripOf s := by
        by_contra hc
        rw [not_or, not_not, not_not] at hc
        have h1 : t.val = 16 * (s / 64) + s % 16 := hc.1
        have h2 : strip q = s / 16 % 4 := hc.2
        omega
      have h1 : stepOf s < 128 := by show 16 * (s / 64) + s % 16 < 128; omega
      have h2 : stripOf s < 4 := by show s / 16 % 4 < 4; omega
      exact (canon_skip (outRect (stepOf s) (stripOf s))
        (shapeCast S1x32x128 (outPay f y m₀ v₀ (stepOf s) (stripOf s)) shapeCasts_S32x128_S1x32x128) (outPieces f y m₀ v₀ s) _
        (not_mem_out _ _ h1 h2 t b q hne)).trans (ih (by omega) h)
    · have e1 : stepOf s = t.val := by show 16 * (s / 64) + s % 16 = t.val; omega
      have e2 : stripOf s = strip q := by show s / 16 % 4 = strip q; omega
      have hp : (outRect (stepOf s) (stripOf s)).emb (ix3 (0 : Fin 1) b (lane q)) = ix3 t b q := by
        rw [e1, e2]; exact out_place t b q
      refine (canon_hit (outRect (stepOf s) (stripOf s))
        (shapeCast S1x32x128 (outPay f y m₀ v₀ (stepOf s) (stripOf s)) shapeCasts_S32x128_S1x32x128) (outPieces f y m₀ v₀ s)
        (ix3 (0 : Fin 1) b (lane q)) _ hp).trans ?_
      rw [e1, e2]
      exact asRow_apply _ _ _

/-- A carried array whose strip has been stored holds the strip's value. -/
theorem stripPieces_apply (v : ℕ → FVec F S32x128 .f32) (L₀ : List (View.Piece (Elt F) S32x512 .f32)) (b : Fin 32)
    (q : Fin 512) (n : ℕ) (hn : n ≤ 4) (hq : strip q < n) :
    View.canon (stripPieces v L₀ n) (ix2 b q) = v (strip q) (ix2 b (lane q)) := by
  induction n with
  | zero => omega
  | succ h ih =>
    rcases Nat.lt_or_ge (strip q) h with hl | hl
    · exact (canon_skip (stripRect h) (shapeCast S32x128 (v h) shapeCasts_S32x128_S32x128) (stripPieces v L₀ h) _
        (not_mem_strip h (by omega) b q (by omega))).trans (ih (by omega) hl)
    · have e : h = strip q := by omega
      have hp : (stripRect h).emb (ix2 b (lane q)) = ix2 b q := by rw [e]; exact strip_place b q
      refine (canon_hit (stripRect h) (shapeCast S32x128 (v h) shapeCasts_S32x128_S32x128) (stripPieces v L₀ h)
        (ix2 b (lane q)) _ hp).trans ?_
      rw [e]
      exact asSelf_apply _ _ _

/-- The left half of the second result holds the mean plus the bias. -/
theorem hidPieces_mean (m v : ℕ → FVec F S32x128 .f32) (bias : ℕ → Vec F S1x128 .f32) (b : Fin 32) (q : Fin 512)
    (n : ℕ) (hn : n ≤ 4) (hq : strip q < n) :
    View.canon (hidPieces m v bias n) (ix2 b (hidCol 0 q)) = biased (m (strip q)) (bias (strip q)) (ix2 b (lane q)) := by
  induction n with
  | zero => omega
  | succ h ih =>
    have z : 4 * (0 : Fin 2).val = 0 := rfl
    refine (canon_skip (hidRect (4 + h)) (v h) (⟨hidRect h, biased (m h) (bias h)⟩ :: hidPieces m v bias h) _
      (not_mem_hid (4 + h) (by omega) 0 b q (by omega))).trans ?_
    rcases Nat.lt_or_ge (strip q) h with hl | hl
    · exact (canon_skip (hidRect h) (biased (m h) (bias h)) (hidPieces m v bias h) _
        (not_mem_hid h (by omega) 0 b q (by omega))).trans (ih (by omega) hl)
    · have e : h = strip q := by omega
      have hp : (hidRect h).emb (ix2 b (lane q)) = ix2 b (hidCol 0 q) := by
        rw [show h = 4 * (0 : Fin 2).val + strip q by omega]; exact hid_place 0 b q
      refine (canon_hit (hidRect h) (biased (m h) (bias h)) (hidPieces m v bias h) (ix2 b (lane q)) _ hp).trans ?_
      rw [e]

/-- The right half of the second result holds the variance. -/
theorem hidPieces_var (m v : ℕ → FVec F S32x128 .f32) (bias : ℕ → Vec F S1x128 .f32) (b : Fin 32) (q : Fin 512)
    (n : ℕ) (hn : n ≤ 4) (hq : strip q < n) :
    View.canon (hidPieces m v bias n) (ix2 b (hidCol 1 q)) = v (strip q) (ix2 b (lane q)) := by
  induction n with
  | zero => omega
  | succ h ih =>
    have z : 4 * (1 : Fin 2).val = 4 := rfl
    rcases Nat.lt_or_ge (strip q) h with hl | hl
    · refine (canon_skip (hidRect (4 + h)) (v h) (⟨hidRect h, biased (m h) (bias h)⟩ :: hidPieces m v bias h) _
        (not_mem_hid (4 + h) (by omega) 1 b q (by omega))).trans ?_
      exact (canon_skip (hidRect h) (biased (m h) (bias h)) (hidPieces m v bias h) _
        (not_mem_hid h (by omega) 1 b q (by omega))).trans (ih (by omega) hl)
    · have e : h = strip q := by omega
      have hp : (hidRect (4 + h)).emb (ix2 b (lane q)) = ix2 b (hidCol 1 q) := by
        rw [show 4 + h = 4 * (1 : Fin 2).val + strip q by omega]; exact hid_place 1 b q
      refine (canon_hit (hidRect (4 + h)) (v h) (⟨hidRect h, biased (m h) (bias h)⟩ :: hidPieces m v bias h)
        (ix2 b (lane q)) _ hp).trans ?_
      rw [e]

end Lists

/-! ## What a point's reads are -/

section Reads

variable (arg1 : Memref sig .tc .vmem S4096x512 .f32) (harg1 : arg1.IsWhole) (arg2 : Memref sig .tc .vmem S512x512 .f32)
  (harg2 : arg2.IsWhole) (arg7 : Memref sig .tc .vmem S4096x512 .f32)
  (x0 : Vec Ideal S4096x512 .f32) (x1 : Vec Ideal S512x512 .f32)

/-- A row of a point times a column of the transposed weight. -/
def rowProj (r : Fin 4096) (q : Fin 512) : EReal := ∑ k : Fin 512, x0 (ix2 r k) * x1 (ix2 k q)

theorem project_apply (w x : Vec Ideal S512x512 .f32) (r q : Fin 512) :
    (project w x : FVec Ideal S512x512 .f32) (ix2 r q) = ∑ k : Fin 512, x (ix2 r k) * w (ix2 k q) := by
  pointwise [project]

theorem weightRead_apply (k q : Fin 512) : weightRead arg2 harg2 x1 (ix2 k q) = x1 (ix2 k q) := by
  unfold weightRead
  rw [Memref.IsWhole.readAt_unread]
  congr 1
  funext a; apply Fin.ext
  fin_cases a
  · show 0 + 1 * k.val = k.val; omega
  · show 0 + 1 * q.val = q.val; omega

theorem chunkRead_apply (r : Fin 4096) (k : Fin 512) :
    chunkRead arg1 harg1 x0 (r.val / 512) (ix2 (⟨r.val % 512, Nat.mod_lt _ (by decide)⟩ : Fin 512) k) = x0 (ix2 r k) := by
  unfold chunkRead
  rw [Memref.IsWhole.readAt_unread]
  exact congrArg x0 (chunk_place _ r k rfl)

/-- What a step reads at a (batch row, lane) is that row's projection. -/
theorem stepRead_apply (t : Fin 128) (b : Fin 32) (q : Fin 512) :
    stepRead arg1 harg1 arg2 harg2 arg7 x0 x1 (strip q) t.val (ix2 b (lane q)) = rowProj x0 x1 (rowOf t b) q := by
  unfold stepRead
  rw [View.readCov_eq_canon']
  refine (congrArg (View.canon _) (step_place t b q)).trans ?_
  rw [projPieces_apply _ _ _ _ _ (by omega) (by show (32 * t.val + b.val) / 512 < _; omega), project_apply]
  refine Finset.sum_congr rfl fun k _ => ?_
  rw [chunkRead_apply, weightRead_apply]

theorem laneRead_apply (arg : Memref sig .tc .vmem S1x512 .f32) (harg : arg.IsWhole) (x : Vec Ideal S1x512 .f32) (q : Fin 512) :
    laneRead arg harg x (strip q) (ix2 (0 : Fin 1) (lane q)) = x (ix2 (0 : Fin 1) q) := by
  unfold laneRead
  rw [Memref.IsWhole.readAt_unread]
  exact congrArg x (lane_place q)

theorem along_apply (v : Vec Ideal S1x128 .f32) (b : Fin 32) (l : Fin 128) : along v (ix2 b l) = v (ix2 (0 : Fin 1) l) := by
  pointwise [along]

theorem gateRead_apply (arg : Memref sig .tc .vmem S1x512 .f32) (harg : arg.IsWhole) (x : Vec Ideal S1x512 .f32)
    (b : Fin 32) (q : Fin 512) : gateRead arg harg x (strip q) (ix2 b (lane q)) = x (ix2 (0 : Fin 1) q) := by
  exact (along_apply (laneRead arg harg x (strip q)) b (lane q)).trans (laneRead_apply arg harg x q)

theorem biased_apply (m : FVec Ideal S32x128 .f32) (v : Vec Ideal S1x128 .f32) (b : Fin 32) (l : Fin 128) :
    biased m v (ix2 b l) = m (ix2 b l) + v (ix2 (0 : Fin 1) l) := by
  pointwise [biased]

end Reads

/-! ## The recurrence inside a point -/

section Steps

variable (f : FVec Ideal S32x128 .f32) (y : ℕ → FVec Ideal S32x128 .f32) (m₀ v₀ : FVec Ideal S32x128 .f32) (i : S32x128.Idx)

theorem pairAt_apply (n : ℕ) :
    ((meanAt f y m₀ n i, varAt f y m₀ v₀ n i) : Pair) = kState (f i) (fun t => y t i) (m₀ i, v₀ i) n := by
  induction n with
  | zero => rfl
  | succ n ih =>
    rw [kState, ← ih]
    rfl

theorem written_apply (y m v : FVec Ideal S32x128 .f32) : written y m v i = kOut (y i) (m i, v i) := rfl

end Steps

end Cert.Norm.Blk

end
-- ==== Proof.PiecesRun.lean ====
/- The stores the run of the body finds are the recursive ones.

   The run's piece lists and the definitions of Pieces.lean are the same terms up to unfolding, so each equation is
   closed by evaluation. Two cases: the first grid point, which sets the carried arrays, and the others, which read what
   the point before left. -/
module

public import proofs.«01_k».proof.Proof.Pieces
public import proofs.«01_k».proof.Proof.Gen.KernelIdeal.Frame

@[expose] public section

set_option maxRecDepth 16384

noncomputable section

namespace Cert.Norm.Blk

open Idealize.ShloMosaic Idealize.ShloMosaic.TcCoe
open Cert.KernelIdeal Cert.KernelIdeal.Gen

variable {F : FTy → Type} [FloatOps F]

variable (c : Dev nD) (i : grid0.Coords) (arg1 : Memref sig .tc .vmem S4096x512 .f32) (harg1 : arg1.IsWhole)
  (arg2 : Memref sig .tc .vmem S512x512 .f32) (harg2 : arg2.IsWhole) (arg3 : Memref sig .tc .vmem S1x512 .f32)
  (harg3 : arg3.IsWhole) (arg4 : Memref sig .tc .vmem S1x512 .f32) (harg4 : arg4.IsWhole)
  (arg5 : Memref sig .tc .vmem S128x32x512 .f32) (harg5 : arg5.IsWhole) (arg6 : Memref sig .tc .vmem S32x1024 .f32)
  (harg6 : arg6.IsWhole) (arg7 : Memref sig .tc .vmem S4096x512 .f32) (harg7 : arg7.IsWhole)
  (arg8 : Memref sig .tc .vmem S32x512 .f32) (harg8 : arg8.IsWhole) (arg9 : Memref sig .tc .vmem S32x512 .f32)
  (harg9 : arg9.IsWhole)
  (x0 : Vec F S4096x512 .f32) (x1 : Vec F S512x512 .f32) (x2 x3 : Vec F S1x512 .f32)

/-! ## Every point but the first -/

section Later

variable (hc0 : ¬cond0_0 i) (xs1 xs2 : Vec F S32x512 .f32)

/-- Strip `h` of the mean the point before left. -/
abbrev meanRead (h : ℕ) : FVec F S32x128 .f32 := View.readAt (Elt F) arg8.view (stripRect h).toLoadRect (harg8.unread xs1)

/-- Strip `h` of the variance the point before left. -/
abbrev varRead (h : ℕ) : FVec F S32x128 .f32 := View.readAt (Elt F) arg9.view (stripRect h).toLoadRect (harg9.unread xs2)

/-- The stores into the first result's block. -/
theorem later_out : (kernelRun0_B c i arg1 harg1 arg2 harg2 arg3 harg3 arg4 harg4 arg5 harg5 arg6 harg6 arg7 harg7
      arg8 harg8 arg9 harg9 hc0 x0 x1 x2 x3 xs1 xs2).1
    = outPieces (gateRead arg4 harg4 x3) (stepRead arg1 harg1 arg2 harg2 arg7 x0 x1)
      (meanRead arg8 harg8 xs1) (varRead arg9 harg9 xs2) 512 := by
  sl_kernel_rfl

/-- The stores into the second result. -/
theorem later_hid : (kernelRun0_B c i arg1 harg1 arg2 harg2 arg3 harg3 arg4 harg4 arg5 harg5 arg6 harg6 arg7 harg7
      arg8 harg8 arg9 harg9 hc0 x0 x1 x2 x3 xs1 xs2).2.1
    = hidPieces (fun h => meanAt (gateRead arg4 harg4 x3 h) (stepRead arg1 harg1 arg2 harg2 arg7 x0 x1 h) (meanRead arg8 harg8 xs1 h) 128)
      (fun h => varAt (gateRead arg4 harg4 x3 h) (stepRead arg1 harg1 arg2 harg2 arg7 x0 x1 h) (meanRead arg8 harg8 xs1 h) (varRead arg9 harg9 xs2 h) 128)
      (laneRead arg3 harg3 x2) 4 := by
  sl_kernel_rfl

/-- The stores into the carried mean. -/
theorem later_mean : (kernelRun0_B c i arg1 harg1 arg2 harg2 arg3 harg3 arg4 harg4 arg5 harg5 arg6 harg6 arg7 harg7
      arg8 harg8 arg9 harg9 hc0 x0 x1 x2 x3 xs1 xs2).2.2.1
    = stripPieces (fun h => meanAt (gateRead arg4 harg4 x3 h) (stepRead arg1 harg1 arg2 harg2 arg7 x0 x1 h) (meanRead arg8 harg8 xs1 h) 128)
      [] 4 := by
  sl_kernel_rfl

/-- The stores into the carried variance. -/
theorem later_var : (kernelRun0_B c i arg1 harg1 arg2 harg2 arg3 harg3 arg4 harg4 arg5 harg5 arg6 harg6 arg7 harg7
      arg8 harg8 arg9 harg9 hc0 x0 x1 x2 x3 xs1 xs2).2.2.2.1
    = stripPieces (fun h => varAt (gateRead arg4 harg4 x3 h) (stepRead arg1 harg1 arg2 harg2 arg7 x0 x1 h) (meanRead arg8 harg8 xs1 h) (varRead arg9 harg9 xs2 h) 128)
      [] 4 := by
  sl_kernel_rfl

end Later

/-! ## The first point -/

section First

variable (hc0 : cond0_0 i)

/-- Strip `h` of the mean this point has just set. -/
abbrev meanSet (h : ℕ) : FVec F S32x128 .f32 := arg8.view.readCov (meanInit arg3 harg3 x2) (stripRect h).toLoadRect

/-- Strip `h` of the variance this point has just set. -/
abbrev varSet (h : ℕ) : FVec F S32x128 .f32 := arg9.view.readCov (varInit (F := F)) (stripRect h).toLoadRect

/-- The stores into the first result's block. -/
theorem first_out : (kernelRun0_A c i arg1 harg1 arg2 harg2 arg3 harg3 arg4 harg4 arg5 harg5 arg6 harg6 arg7 harg7
      arg8 harg8 arg9 harg9 hc0 x0 x1 x2 x3).1
    = outPieces (gateRead arg4 harg4 x3) (stepRead arg1 harg1 arg2 harg2 arg7 x0 x1)
      (meanSet arg3 harg3 arg8 x2) (varSet arg9) 512 := by
  sl_kernel_rfl

/-- The stores into the second result. -/
theorem first_hid : (kernelRun0_A c i arg1 harg1 arg2 harg2 arg3 harg3 arg4 harg4 arg5 harg5 arg6 harg6 arg7 harg7
      arg8 harg8 arg9 harg9 hc0 x0 x1 x2 x3).2.1
    = hidPieces (fun h => meanAt (gateRead arg4 harg4 x3 h) (stepRead arg1 harg1 arg2 harg2 arg7 x0 x1 h) (meanSet arg3 harg3 arg8 x2 h) 128)
      (fun h => varAt (gateRead arg4 harg4 x3 h) (stepRead arg1 harg1 arg2 harg2 arg7 x0 x1 h) (meanSet arg3 harg3 arg8 x2 h) (varSet arg9 h) 128)
      (laneRead arg3 harg3 x2) 4 := by
  sl_kernel_rfl

/-- The stores into the carried mean. -/
theorem first_mean : (kernelRun0_A c i arg1 harg1 arg2 harg2 arg3 harg3 arg4 harg4 arg5 harg5 arg6 harg6 arg7 harg7
      arg8 harg8 arg9 harg9 hc0 x0 x1 x2 x3).2.2.1
    = stripPieces (fun h => meanAt (gateRead arg4 harg4 x3 h) (stepRead arg1 harg1 arg2 harg2 arg7 x0 x1 h) (meanSet arg3 harg3 arg8 x2 h) 128)
      (meanInit arg3 harg3 x2) 4 := by
  sl_kernel_rfl

/-- The stores into the carried variance. -/
theorem first_var : (kernelRun0_A c i arg1 harg1 arg2 harg2 arg3 harg3 arg4 harg4 arg5 harg5 arg6 harg6 arg7 harg7
      arg8 harg8 arg9 harg9 hc0 x0 x1 x2 x3).2.2.2.1
    = stripPieces (fun h => varAt (gateRead arg4 harg4 x3 h) (stepRead arg1 harg1 arg2 harg2 arg7 x0 x1 h) (meanSet arg3 harg3 arg8 x2 h) (varSet arg9 h) 128)
      varInit 4 := by
  sl_kernel_rfl

end First

end Cert.Norm.Blk

end
-- ==== Proof.Point.lean ====
/- What one grid point leaves, as the recurrence over its 128 steps.

   `PointIs` says of a point's four results (the block of the first result, the second result, the carried mean and the
   carried variance) that they are the recurrence run over the point's projections from a start. The first point starts
   from mean `0 - bias` and variance 1 (`first_point`), every other point from what the point before left
   (`later_point`). -/
module

public import proofs.«01_k».proof.Proof.Block
public import proofs.«01_k».proof.Proof.PiecesRun

@[expose] public section

noncomputable section

namespace Cert.Norm.Blk

open Idealize.ShloMosaic Idealize.ShloMosaic.TcCoe
open Cert.KernelIdeal Cert.KernelIdeal.Gen

/-- Sequences that agree before `n` give the same state after `n` steps. -/
theorem kState_congr (f : EReal) (y y' : ℕ → EReal) (s : Pair) (n : ℕ) (h : ∀ k < n, y k = y' k) :
    kState f y s n = kState f y' s n := by
  induction n with
  | zero => rfl
  | succ n ih => rw [kState, kState, ih fun k hk => h k (by omega), h n (by omega)]

/-- The projections of a point's 128 steps at one (batch row, feature), zero past the last. -/
def rows (x0 : Vec Ideal S4096x512 .f32) (x1 : Vec Ideal S512x512 .f32) (b : Fin 32) (q : Fin 512) (n : ℕ) : EReal :=
  if h : n < 128 then rowProj x0 x1 (rowOf ⟨n, h⟩ b) q else 0

theorem rows_val (x0 : Vec Ideal S4096x512 .f32) (x1 : Vec Ideal S512x512 .f32) (b : Fin 32) (q : Fin 512) (t : Fin 128) :
    rows x0 x1 b q t.val = rowProj x0 x1 (rowOf t b) q := dif_pos t.isLt

theorem strip_lt (q : Fin 512) : strip q < 4 := by have := q.isLt; show q.val / 128 < 4; omega

section State

variable (x0 : Vec Ideal S4096x512 .f32) (x1 : Vec Ideal S512x512 .f32) (x2 x3 : Vec Ideal S1x512 .f32)
  (s₀ : Fin 32 → Fin 512 → Pair)

/-- The recurrence's state after `n` of a point's steps. -/
abbrev stateAt (b : Fin 32) (q : Fin 512) (n : ℕ) : Pair := kState (x3 (ix2 (0 : Fin 1) q)) (rows x0 x1 b q) (s₀ b q) n

/-- A point's results are the recurrence over its projections from `s₀`. -/
def PointIs (r : Vec Ideal S128x32x512 .f32 × Vec Ideal S32x1024 .f32 × Vec Ideal S32x512 .f32 × Vec Ideal S32x512 .f32) : Prop :=
  (∀ (t : Fin 128) (b : Fin 32) (q : Fin 512),
      r.1 (ix3 t b q) = kOut (rows x0 x1 b q t.val) (stateAt x0 x1 x3 s₀ b q t.val))
  ∧ (∀ (b : Fin 32) (q : Fin 512), r.2.1 (ix2 b (hidCol 0 q)) = (stateAt x0 x1 x3 s₀ b q 128).1 + x2 (ix2 (0 : Fin 1) q))
  ∧ (∀ (b : Fin 32) (q : Fin 512), r.2.1 (ix2 b (hidCol 1 q)) = (stateAt x0 x1 x3 s₀ b q 128).2)
  ∧ (∀ (b : Fin 32) (q : Fin 512), ((r.2.2.1 (ix2 b q), r.2.2.2 (ix2 b q)) : Pair) = stateAt x0 x1 x3 s₀ b q 128)

variable (arg1 : Memref sig .tc .vmem S4096x512 .f32) (harg1 : arg1.IsWhole)
  (arg2 : Memref sig .tc .vmem S512x512 .f32) (harg2 : arg2.IsWhole) (arg3 : Memref sig .tc .vmem S1x512 .f32)
  (harg3 : arg3.IsWhole) (arg4 : Memref sig .tc .vmem S1x512 .f32) (harg4 : arg4.IsWhole)
  (arg7 : Memref sig .tc .vmem S4096x512 .f32) (m₀ v₀ : ℕ → FVec Ideal S32x128 .f32)
  (hs : ∀ b q, ((m₀ (strip q) (ix2 b (lane q)), v₀ (strip q) (ix2 b (lane q))) : Pair) = s₀ b q)

include hs

/-- The carried pair of a strip before step `n`, read at a lane. -/
theorem pair_before (b : Fin 32) (q : Fin 512) (n : ℕ) (hn : n ≤ 128) :
    ((meanAt (gateRead arg4 harg4 x3 (strip q)) (stepRead arg1 harg1 arg2 harg2 arg7 x0 x1 (strip q)) (m₀ (strip q)) n (ix2 b (lane q)),
      varAt (gateRead arg4 harg4 x3 (strip q)) (stepRead arg1 harg1 arg2 harg2 arg7 x0 x1 (strip q)) (m₀ (strip q)) (v₀ (strip q)) n
        (ix2 b (lane q))) : Pair) = stateAt x0 x1 x3 s₀ b q n := by
  rw [pairAt_apply, gateRead_apply, hs]
  refine kState_congr _ _ _ _ _ fun k hk => ?_
  rw [show rows x0 x1 b q k = _ from rows_val x0 x1 b q ⟨k, by omega⟩]
  exact stepRead_apply arg1 harg1 arg2 harg2 arg7 x0 x1 ⟨k, by omega⟩ b q

/-- Results read back from the lists of Pieces.lean are the recurrence's. -/
theorem pointIs_of_lists (L₁ L₂ : List (View.Piece (Elt Ideal) S32x512 .f32)) (o : Vec Ideal S128x32x512 .f32)
    (h : Vec Ideal S32x1024 .f32) (a v : Vec Ideal S32x512 .f32) (M V : ℕ → FVec Ideal S32x128 .f32)
    (hM : M = fun h => meanAt (gateRead arg4 harg4 x3 h) (stepRead arg1 harg1 arg2 harg2 arg7 x0 x1 h) (m₀ h) 128)
    (hV : V = fun h => varAt (gateRead arg4 harg4 x3 h) (stepRead arg1 harg1 arg2 harg2 arg7 x0 x1 h) (m₀ h) (v₀ h) 128)
    (ho : o = View.canon (outPieces (gateRead arg4 harg4 x3) (stepRead arg1 harg1 arg2 harg2 arg7 x0 x1) m₀ v₀ 512))
    (hh : h = View.canon (hidPieces M V (laneRead arg3 harg3 x2) 4))
    (ha : a = View.canon (stripPieces M L₁ 4)) (hv : v = View.canon (stripPieces V L₂ 4)) :
    PointIs x0 x1 x2 x3 s₀ (o, h, a, v) := by
  have hp := pair_before x0 x1 x3 s₀ arg1 harg1 arg2 harg2 arg4 harg4 arg7 m₀ v₀ hs
  have hend : ∀ b q, ((M (strip q) (ix2 b (lane q)), V (strip q) (ix2 b (lane q))) : Pair) = stateAt x0 x1 x3 s₀ b q 128 :=
    fun b q => by rw [hM, hV]; exact hp b q 128 le_rfl
  have hm := fun b q => congrArg Prod.fst (hend b q)
  have hvv := fun b q => congrArg Prod.snd (hend b q)
  refine ⟨fun t b q => ?_, fun b q => ?_, fun b q => ?_, fun b q => ?_⟩
  · have hq := strip_lt q
    show o (ix3 t b q) = _
    rw [ho, outPieces_apply (F := Ideal) (gateRead arg4 harg4 x3) (stepRead arg1 harg1 arg2 harg2 arg7 x0 x1) m₀ v₀ t b q 512 le_rfl
      (by have := t.isLt; omega), outPay, written_apply, hp b q t.val (by omega), rows_val, stepRead_apply]
  · show h (ix2 b (hidCol 0 q)) = _
    rw [hh, hidPieces_mean (F := Ideal) M V (laneRead arg3 harg3 x2) b q 4 le_rfl (strip_lt q), biased_apply, laneRead_apply]
    exact congrArg (· + x2 (ix2 (0 : Fin 1) q)) (hm b q)
  · show h (ix2 b (hidCol 1 q)) = _
    rw [hh, hidPieces_var (F := Ideal) M V (laneRead arg3 harg3 x2) b q 4 le_rfl (strip_lt q)]
    exact hvv b q
  · show ((a (ix2 b q), v (ix2 b q)) : Pair) = _
    rw [ha, hv, stripPieces_apply (F := Ideal) M L₁ b q 4 le_rfl (strip_lt q),
      stripPieces_apply (F := Ideal) V L₂ b q 4 le_rfl (strip_lt q)]
    exact hend b q

end State

/-! ## What the two kinds of point start from -/

theorem meanRead_apply (arg8 : Memref sig .tc .vmem S32x512 .f32) (harg8 : arg8.IsWhole) (xs1 : Vec Ideal S32x512 .f32)
    (b : Fin 32) (q : Fin 512) : meanRead arg8 harg8 xs1 (strip q) (ix2 b (lane q)) = xs1 (ix2 b q) := by
  unfold meanRead
  rw [Memref.IsWhole.readAt_unread]
  exact congrArg xs1 (strip_place b q)

theorem varRead_apply (arg9 : Memref sig .tc .vmem S32x512 .f32) (harg9 : arg9.IsWhole) (xs2 : Vec Ideal S32x512 .f32)
    (b : Fin 32) (q : Fin 512) : varRead arg9 harg9 xs2 (strip q) (ix2 b (lane q)) = xs2 (ix2 b q) :=
  meanRead_apply arg9 harg9 xs2 b q

/-- A store of a whole carried array leaves what it stored. -/
theorem whole_apply (w : Vec Ideal S32x512 .f32) (b : Fin 32) (q : Fin 512) :
    View.canon (Val := Elt Ideal) [⟨Rect.unit ![0, 0] S32x512.size inb_S32x512_S32x512_0_0, w⟩] (ix2 b q) = w (ix2 b q) := by
  refine canon_hit (F := Ideal) (Rect.unit ![0, 0] S32x512.size inb_S32x512_S32x512_0_0) w [] (ix2 b q) (ix2 b q) ?_
  funext a; apply Fin.ext; rw [ValueKit.rect_emb_unit_val]
  fin_cases a
  · show 0 + b.val = b.val; omega
  · show 0 + q.val = q.val; omega

/-- A row of features, read whole. -/
theorem rowRead_apply (arg3 : Memref sig .tc .vmem S1x512 .f32) (harg3 : arg3.IsWhole) (x2 : Vec Ideal S1x512 .f32) (q : Fin 512) :
    View.readAt (Elt Ideal) arg3.view (Rect.unit ![0, 0] S1x512.size inb_S1x512_S1x512_0_0).toLoadRect (harg3.unread x2)
      (ix2 (0 : Fin 1) q) = x2 (ix2 (0 : Fin 1) q) := by
  rw [Memref.IsWhole.readAt_unread]
  congr 1
  funext a; apply Fin.ext
  fin_cases a
  · rfl
  · show 0 + 1 * q.val = q.val; omega

theorem startMean_apply (v : Vec Ideal S1x512 .f32) (b : Fin 32) (q : Fin 512) :
    (k0_pay5 v : FVec Ideal S32x512 .f32) (ix2 b q) = 0 - v (ix2 (0 : Fin 1) q) := by
  pointwise [k0_pay5]

theorem startVar_apply (b : Fin 32) (q : Fin 512) : (k0_pay6 : FVec Ideal S32x512 .f32) (ix2 b q) = 1 := by
  pointwise [k0_pay6]

theorem meanSet_apply (arg3 : Memref sig .tc .vmem S1x512 .f32) (harg3 : arg3.IsWhole) (arg8 : Memref sig .tc .vmem S32x512 .f32)
    (x2 : Vec Ideal S1x512 .f32) (b : Fin 32) (q : Fin 512) :
    meanSet arg3 harg3 arg8 x2 (strip q) (ix2 b (lane q)) = 0 - x2 (ix2 (0 : Fin 1) q) := by
  unfold meanSet
  rw [View.readCov_eq_canon']
  refine (congrArg (View.canon _) (strip_place b q)).trans ?_
  rw [meanInit, whole_apply, startMean_apply, rowRead_apply]

theorem varSet_apply (arg9 : Memref sig .tc .vmem S32x512 .f32) (b : Fin 32) (q : Fin 512) :
    varSet (F := Ideal) arg9 (strip q) (ix2 b (lane q)) = 1 := by
  unfold varSet
  rw [View.readCov_eq_canon']
  refine (congrArg (View.canon _) (strip_place b q)).trans ?_
  rw [varInit, whole_apply, startVar_apply]

/-! ## The two kinds of point -/

section Kinds

variable (c : Dev nD) (i : grid0.Coords) (arg1 : Memref sig .tc .vmem S4096x512 .f32) (harg1 : arg1.IsWhole)
  (arg2 : Memref sig .tc .vmem S512x512 .f32) (harg2 : arg2.IsWhole) (arg3 : Memref sig .tc .vmem S1x512 .f32)
  (harg3 : arg3.IsWhole) (arg4 : Memref sig .tc .vmem S1x512 .f32) (harg4 : arg4.IsWhole)
  (arg5 : Memref sig .tc .vmem S128x32x512 .f32) (harg5 : arg5.IsWhole) (arg6 : Memref sig .tc .vmem S32x1024 .f32)
  (harg6 : arg6.IsWhole) (arg7 : Memref sig .tc .vmem S4096x512 .f32) (harg7 : arg7.IsWhole)
  (arg8 : Memref sig .tc .vmem S32x512 .f32) (harg8 : arg8.IsWhole) (arg9 : Memref sig .tc .vmem S32x512 .f32)
  (harg9 : arg9.IsWhole)
  (x0 : Vec Ideal S4096x512 .f32) (x1 : Vec Ideal S512x512 .f32) (x2 x3 : Vec Ideal S1x512 .f32)

/-- The first point, at any buffers. -/
theorem first_is (hc0 : cond0_0 i) : PointIs x0 x1 x2 x3 (fun b q => (0 - x2 (ix2 (0 : Fin 1) q), 1))
    (out0_A_4 c i arg1 harg1 arg2 harg2 arg3 harg3 arg4 harg4 arg5 harg5 arg6 harg6 arg7 harg7 arg8 harg8 arg9 harg9 hc0 x0 x1 x2 x3,
     out0_A_5 c i arg1 harg1 arg2 harg2 arg3 harg3 arg4 harg4 arg5 harg5 arg6 harg6 arg7 harg7 arg8 harg8 arg9 harg9 hc0 x0 x1 x2 x3,
     sout0_A_1 c i arg1 harg1 arg2 harg2 arg3 harg3 arg4 harg4 arg5 harg5 arg6 harg6 arg7 harg7 arg8 harg8 arg9 harg9 hc0 x0 x1 x2 x3,
     sout0_A_2 c i arg1 harg1 arg2 harg2 arg3 harg3 arg4 harg4 arg5 harg5 arg6 harg6 arg7 harg7 arg8 harg8 arg9 harg9 hc0 x0 x1 x2 x3) := by
  refine pointIs_of_lists x0 x1 x2 x3 _ arg1 harg1 arg2 harg2 arg3 harg3 arg4 harg4 arg7
    (meanSet arg3 harg3 arg8 x2) (varSet arg9)
    (fun b q => Prod.ext (meanSet_apply arg3 harg3 arg8 x2 b q) (varSet_apply arg9 b q))
    (meanInit arg3 harg3 x2) varInit _ _ _ _ _ _ rfl rfl ?_ ?_ ?_ ?_
  · unfold out0_A_4; rw [View.read_writes_junk_eq_canon, first_out]
  · unfold out0_A_5; rw [View.read_writes_junk_eq_canon, first_hid]
  · unfold sout0_A_1; rw [View.read_writes_junk_eq_canon, first_mean]
  · unfold sout0_A_2; rw [View.read_writes_junk_eq_canon, first_var]

/-- Any other point, at any buffers. -/
theorem later_is (hc0 : ¬cond0_0 i) (xs1 xs2 : Vec Ideal S32x512 .f32) :
    PointIs x0 x1 x2 x3 (fun b q => (xs1 (ix2 b q), xs2 (ix2 b q)))
    (out0_B_4 c i arg1 harg1 arg2 harg2 arg3 harg3 arg4 harg4 arg5 harg5 arg6 harg6 arg7 harg7 arg8 harg8 arg9 harg9 hc0 x0 x1 x2 x3 xs1 xs2,
     out0_B_5 c i arg1 harg1 arg2 harg2 arg3 harg3 arg4 harg4 arg5 harg5 arg6 harg6 arg7 harg7 arg8 harg8 arg9 harg9 hc0 x0 x1 x2 x3 xs1 xs2,
     sout0_B_1 c i arg1 harg1 arg2 harg2 arg3 harg3 arg4 harg4 arg5 harg5 arg6 harg6 arg7 harg7 arg8 harg8 arg9 harg9 hc0 x0 x1 x2 x3 xs1 xs2,
     sout0_B_2 c i arg1 harg1 arg2 harg2 arg3 harg3 arg4 harg4 arg5 harg5 arg6 harg6 arg7 harg7 arg8 harg8 arg9 harg9 hc0 x0 x1 x2 x3 xs1 xs2) := by
  refine pointIs_of_lists x0 x1 x2 x3 _ arg1 harg1 arg2 harg2 arg3 harg3 arg4 harg4 arg7
    (meanRead arg8 harg8 xs1) (varRead arg9 harg9 xs2)
    (fun b q => Prod.ext (meanRead_apply arg8 harg8 xs1 b q) (varRead_apply arg9 harg9 xs2 b q))
    [] [] _ _ _ _ _ _ rfl rfl ?_ ?_ ?_ ?_
  · unfold out0_B_4; rw [View.read_writes_junk_eq_canon, later_out]
  · unfold out0_B_5; rw [View.read_writes_junk_eq_canon, later_hid]
  · unfold sout0_B_1; rw [View.read_writes_junk_eq_canon, later_mean]
  · unfold sout0_B_2; rw [View.read_writes_junk_eq_canon, later_var]

end Kinds

variable (m : (ℓ : Loc nD τ sig) → Buf (Elt Ideal) ℓ) (c : Dev nD) (t : Fin cfg0.N)

/-- The first point runs the recurrence from mean `0 - bias` and variance 1. -/
theorem first_point (h0 : t.val % 16 = 0) :
    PointIs (iblk m c 0 t) (iblk m c 1 t) (iblk m c 2 t) (iblk m c 3 t)
      (fun b q => (0 - iblk m c 2 t (ix2 (0 : Fin 1) q), 1)) (outsAt0 m c t.val t.isLt) := by
  rw [outsAt0_A m c t h0]
  exact first_is c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) scM0_1 (Memref.isWhole_whole _) scM0_2 (Memref.isWhole_whole _)
    (iblk m c 0 t) (iblk m c 1 t) (iblk m c 2 t) (iblk m c 3 t) ((hcond0_0 t).mpr h0)

/-- Every other point runs it from what the point before left. -/
theorem later_point (h0 : ¬t.val % 16 = 0) :
    PointIs (iblk m c 0 t) (iblk m c 1 t) (iblk m c 2 t) (iblk m c 3 t)
      (fun b q => ((outsAt0 m c (t.val - 1) (Nat.lt_of_le_of_lt (Nat.sub_le _ _) t.isLt)).2.2.1 (ix2 b q),
        (outsAt0 m c (t.val - 1) (Nat.lt_of_le_of_lt (Nat.sub_le _ _) t.isLt)).2.2.2 (ix2 b q))) (outsAt0 m c t.val t.isLt) := by
  rw [outsAt0_B m c t h0]
  exact later_is c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) scM0_1 (Memref.isWhole_whole _) scM0_2 (Memref.isWhole_whole _)
    (iblk m c 0 t) (iblk m c 1 t) (iblk m c 2 t) (iblk m c 3 t) (fun h => h0 ((hcond0_0 t).mp h)) _ _

end Cert.Norm.Blk

end
-- ==== Proof.ReferenceRun.lean ====
/- The reference's run, told by its loop's states.

   The generated run says what the loop leaves as one update of a whole valuation, iterated. Here that is restated over
   the named step of Gen/ReferenceIdeal/Step.lean: a valuation `Carries` a state when the loop's buffers hold the
   state's fields and the counter holds the trip's number; the entry carries `init`, a trip carries `step`, and so the
   results are read off state number 2048 (`run_states`). -/
module

public import proofs.«01_k».proof.Proof.Gen.ReferenceIdeal.Run
public import proofs.«01_k».proof.Proof.Gen.ReferenceIdeal.Step

@[expose] public section

noncomputable section

namespace Cert.Norm.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold the state `s` and its counter the number `j`. -/
structure Carries (V : Valuation τ sig (Elt F)) (s : State F) (j : ℕ) : Prop where
  mean : V (Proc.devRef .tc main_v7_3) = s.main_v7_3
  var : V (Proc.devRef .tc main_v7_4) = s.main_v7_4
  out : V (Proc.devRef .tc main_v7_5) = s.main_v7_5
  proj : V (Proc.devRef .tc main_v7_0) = s.main_v7_0
  gate : V (Proc.devRef .tc main_v7_1) = s.main_v7_1
  count : V (Proc.devRef .tc main_v7_2) = constantI S_ 32 (BitVec.ofNat 32 j)

variable {V : Valuation τ sig (Elt F)} {s : State F} {j : ℕ}

/-- The row a trip slices. -/
theorem row_eq (h : Carries V s j) : res_main_while0b_v9 V = Step.b3 j s := by
  unfold res_main_while0b_v9
  rw [h.proj, h.count]
  rfl

/-- The row's distance from the mean. -/
theorem diff_eq (h : Carries V s j) : res_main_while0b_v10 V = Step.b4 j s := by
  unfold res_main_while0b_v10
  rw [row_eq h, h.mean]
  rfl

theorem mean_eq (h : Carries V s j) : step_main_v7_3 V = (step j s).main_v7_3 := by
  unfold step_main_v7_3
  rw [row_eq h, h.mean, h.gate]
  rfl

theorem var_eq (h : Carries V s j) : step_main_v7_4 V = (step j s).main_v7_4 := by
  unfold step_main_v7_4
  rw [diff_eq h, h.var, h.gate]
  rfl

theorem out_eq (h : Carries V s j) : step_main_v7_5 V = (step j s).main_v7_5 := by
  unfold step_main_v7_5
  rw [diff_eq h, h.var, h.out, h.count]
  rfl

theorem count_eq (h : Carries V s j) : step_main_v7_2 V = constantI S_ 32 (BitVec.ofNat 32 (j + 1)) := by
  unfold step_main_v7_2
  rw [h.count]
  funext i
  show BitVec.ofNat 32 j + 1#32 = BitVec.ofNat 32 (j + 1)
  simp only [BitVec.ofNat_add]

/-- A trip carries the next state. -/
theorem carries_step (h : Carries V s j) : Carries (STEP V) (step j s) (j + 1) where
  mean := (STEP_main_v7_3 V).trans (mean_eq h)
  var := (STEP_main_v7_4 V).trans (var_eq h)
  out := (STEP_main_v7_5 V).trans (out_eq h)
  proj := (STEP_main_v7_0 V).trans h.proj
  gate := (STEP_main_v7_1 V).trans h.gate
  count := (STEP_main_v7_2 V).trans (count_eq h)

/-- The state the first trip starts from. -/
abbrev start (m : (ℓ : Loc nD τ sig) → Buf (Elt F) ℓ) (c : Dev nD) : State F :=
  init (m ((c.tc : Thread nD τ).loc main_arg3)) (m ((c.tc : Thread nD τ).loc main_arg0))
    (m ((c.tc : Thread nD τ).loc main_arg1)) (m ((c.tc : Thread nD τ).loc main_arg2))

variable (m : (ℓ : Loc nD τ sig) → Buf (Elt F) ℓ) (c : Dev nD)

set_option maxRecDepth 65536 in
/-- The operations before the loop leave the starting state and number 0. -/
theorem entry_carries : Carries (entryContents preI m c) (start m c) 0 := by
  constructor <;> (simp only [entryContents, afterL_cons, afterL_nil]; after_reads_simp) <;> rfl

/-- Before the `k`-th condition the loop carries the `k`-th of the states. -/
theorem carries_iter (it : ℕ → State F) (h0 : it 0 = start m c) (hs : ∀ n, it (n + 1) = step n (it n)) (k : ℕ) :
    Carries (STEP^[k] (entryContents preI m c)) (it k) k := by
  induction k with
  | zero => exact h0 ▸ entry_carries m c
  | succ k ih =>
    rw [Function.iterate_succ_apply', hs k]
    exact carries_step ih

/-- Every weakly fair execution of the reference ends with its results read off state number 2048 of the sequence that
    begins at `start` and goes on by `step`, and with its arguments unchanged. -/
theorem run_states (ρ : Dev nD → PrngReg) (it : Dev nD → ℕ → State F)
    (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v7_5) = (it c 2048).main_v7_5
      ∧ r.2.mem ((c.tc : Thread nD τ).loc main_v8) = Step.R_main_v8 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ?_) (Value.run m ρ)
  have hk := carries_iter m c (it c) (h0 c) (hs c) 2048
  obtain ⟨hout, hhid, hargs⟩ := h c
  refine ⟨hout.trans hk.out, hhid.trans ?_, hargs⟩
  unfold out_main_v8
  rw [hk.mean, hk.var]
  rfl

end Cert.Norm.RefRun

end
-- ==== Proof.Reference.lean ====
/- What the reference computes, element by element.

   The reference is one counted host loop of 2048 trips. Its sequence of states is `refIter`; at a (batch row, feature)
   the carried mean and variance are the recurrence of Recurrence.lean over the biased projections (`refIter_pair`),
   and row `t` of the carried result is what that recurrence writes at step `t` (`refIter_out`). -/
module

public import proofs.«01_k».proof.Proof.Recurrence
public import proofs.«01_k».proof.Proof.ReferenceRun
public import Idealize.ShloMosaic.Lib.Pointwise
public import Idealize.ShloMosaic.Lib.DynamicIndex
public import Idealize.ShloMosaic.Lib.WordCmp

@[expose] public section

noncomputable section

namespace Cert.Norm.Ref

open Idealize.ShloMosaic Cert.ReferenceIdeal Cert.ReferenceIdeal.Gen Cert.ReferenceIdeal.Step

/-- The projection `x · Wᵀ` at row `t` of the sequence, batch row `b`, feature `h`. -/
def proj (x : FVec Ideal S2048x32x512 .f32) (w : FVec Ideal S512x512 .f32) (t : Fin 2048) (b : Fin 32) (h : Fin 512) : EReal :=
  ∑ k : Fin 512, x (ix3 t b k) * w (ix2 h k)

/-- The projections of one (batch row, feature) as a sequence, zero past the last row. -/
def projSeq (x : FVec Ideal S2048x32x512 .f32) (w : FVec Ideal S512x512 .f32) (b : Fin 32) (h : Fin 512) (n : ℕ) : EReal :=
  if hn : n < 2048 then proj x w ⟨n, hn⟩ b h else 0

variable (x : FVec Ideal S2048x32x512 .f32) (w : FVec Ideal S512x512 .f32) (bias f : FVec Ideal S512 .f32)

/-- The reference's states: what it hands its loop, then one trip after another. -/
def refIter : ℕ → State Ideal
  | 0 => init f x w bias
  | n + 1 => step n (refIter n)

/-- No trip changes the biased projections. -/
theorem refIter_y (n : ℕ) : (refIter x w bias f n).main_v7_0 = A_main_v3 x w bias := by
  induction n with
  | zero => rfl
  | succ n ih => exact ih

/-- No trip changes the gate. -/
theorem refIter_f (n : ℕ) : (refIter x w bias f n).main_v7_1 = f := by
  induction n with
  | zero => rfl
  | succ n ih => exact ih

/-- The biased projections at an index. -/
theorem y_apply (t : Fin 2048) (b : Fin 32) (h : Fin 512) :
    (A_main_v3 (F := Ideal) x w bias : FVec Ideal S2048x32x512 .f32) (ix3 t b h) = proj x w t b h + bias (ix1 h) := by
  pointwise [A_main_v3, A_main_v2, A_main_v1, A_main_v0, proj]

/-- The three starts of trip `j`'s slice are the trip's number and two zeros. -/
theorem starts_eq (j : ℕ) (hj : j < 2048) (a : Fin 3) :
    (((![(constantI S_ 32 (BitVec.ofNat 32 j) : (⟨S_, .i32⟩ : BufTy).Contents (Elt Ideal)), constantI S_ 32 0#32,
        constantI S_ 32 0#32] : Fin 3 → (⟨S_, .i32⟩ : BufTy).Contents (Elt Ideal))) a (Shape.Idx.first h_S_)).toInt
      = ((![j, 0, 0] : Fin 3 → ℕ) a : Int) := by
  fin_cases a
  · exact toInt_ofNat_of_lt (by omega)
  · rfl
  · rfl

/-- One row from `j` on lies inside the sequence. -/
theorem row_fits (j : ℕ) (hj : j < 2048) : S2048x32x512.Slices (![j, 0, 0] : Fin 3 → ℕ) S1x32x512 :=
  ⟨rfl, fun a => by fin_cases a <;> simp <;> omega⟩

/-- Trip `j` slices row `j` of the biased projections. -/
theorem b3_apply (s : State Ideal) (j : Fin 2048) (b : Fin 32) (h : Fin 512) :
    (b3 j.val s : FVec Ideal S32x512 .f32) (ix2 b h) = s.main_v7_0 (ix3 j b h) := by
  unfold b3 b2 b1 b0
  rw [Host.dynamicSlice_eq_extractStridedSlice S1x32x512 s.main_v7_0 _ ![j.val, 0, 0] _
    (row_fits j.val j.isLt) (starts_eq j.val j.isLt)]
  pointwise

/-- The gate along the features. -/
theorem gate_apply (s : State Ideal) (j : ℕ) (b : Fin 32) (h : Fin 512) :
    (b12 j s : FVec Ideal S32x512 .f32) (ix2 b h) = s.main_v7_1 (ix1 h) := by
  pointwise [b12, b11]

/-- One less the gate along the features. -/
theorem ungate_apply (s : State Ideal) (j : ℕ) (b : Fin 32) (h : Fin 512) :
    (b18 j s : FVec Ideal S32x512 .f32) (ix2 b h) = 1 - s.main_v7_1 (ix1 h) := by
  pointwise [b18, b17, b16, b15, b14]

/-- A trip's new mean and variance are one step of the recurrence. -/
theorem pair_apply (s : State Ideal) (j : Fin 2048) (b : Fin 32) (h : Fin 512) :
    (((b20 j.val s : FVec Ideal S32x512 .f32) (ix2 b h), (b31 j.val s : FVec Ideal S32x512 .f32) (ix2 b h)) : Pair)
      = rStep (s.main_v7_1 (ix1 h)) (s.main_v7_0 (ix3 j b h)) (s.main_v7_3 (ix2 b h), s.main_v7_4 (ix2 b h)) := by
  refine Prod.ext ?_ ?_
  · show (b12 j.val s : FVec Ideal S32x512 .f32) (ix2 b h) * (b3 j.val s : FVec Ideal S32x512 .f32) (ix2 b h)
      + (b18 j.val s : FVec Ideal S32x512 .f32) (ix2 b h) * s.main_v7_3 (ix2 b h) = _
    rw [gate_apply, ungate_apply, b3_apply]
    rfl
  · show (b12 j.val s : FVec Ideal S32x512 .f32) (ix2 b h)
        * (((b3 j.val s : FVec Ideal S32x512 .f32) (ix2 b h) - s.main_v7_3 (ix2 b h))
          * ((b3 j.val s : FVec Ideal S32x512 .f32) (ix2 b h) - s.main_v7_3 (ix2 b h)))
      + (b18 j.val s : FVec Ideal S32x512 .f32) (ix2 b h) * s.main_v7_4 (ix2 b h) = _
    rw [gate_apply, ungate_apply, b3_apply]
    rfl

/-- What a trip writes, at one (batch row, feature). -/
theorem written_apply (s : State Ideal) (j : Fin 2048) (b : Fin 32) (h : Fin 512) :
    (b10 j.val s : FVec Ideal S32x512 .f32) (ix2 b h)
      = rOut (s.main_v7_0 (ix3 j b h)) (s.main_v7_3 (ix2 b h), s.main_v7_4 (ix2 b h)) := by
  show Ideal.tanh (Ideal.div ((b3 j.val s : FVec Ideal S32x512 .f32) (ix2 b h) - s.main_v7_3 (ix2 b h))
    (Ideal.sqrt (s.main_v7_4 (ix2 b h) + (b6 j.val s : FVec Ideal S32x512 .f32) (ix2 b h)))) = _
  rw [b3_apply]
  rfl

/-- A trip overwrites row `j` of the carried result and no other. -/
theorem b35_apply (s : State Ideal) (j t : Fin 2048) (b : Fin 32) (h : Fin 512) :
    (b35 j.val s : FVec Ideal S2048x32x512 .f32) (ix3 t b h)
      = if t = j then (b10 j.val s : FVec Ideal S32x512 .f32) (ix2 b h) else s.main_v7_5 (ix3 t b h) := by
  unfold b35 b34 b33
  rw [WordCmp.dynamicUpdateSlice_eq_update _ _ _ _ ![j.val, 0, 0] (row_fits j.val j.isLt) (starts_eq j.val j.isLt)]
  unfold b32
  pointwise
  exact if_congr ⟨fun e => Fin.ext (by omega), fun e => by subst e; omega⟩ rfl rfl

/-- The sequence the recurrence reads: the biased projections of one (batch row, feature). -/
abbrev ySeq (b : Fin 32) (h : Fin 512) (n : ℕ) : EReal := projSeq x w b h n + bias (ix1 h)

/-- After `n` trips the carried mean and variance are the recurrence's. -/
theorem refIter_pair (b : Fin 32) (h : Fin 512) (n : ℕ) (hn : n ≤ 2048) :
    (((refIter x w bias f n).main_v7_3 (ix2 b h), (refIter x w bias f n).main_v7_4 (ix2 b h)) : Pair)
      = rState (f (ix1 h)) (ySeq x w bias b h) n := by
  induction n with
  | zero => exact Prod.ext Ideal.ofBits_zero_f32 Ideal.ofBits_one_f32
  | succ n ih =>
    have hlt : n < 2048 := by omega
    refine (pair_apply (refIter x w bias f n) ⟨n, hlt⟩ b h).trans ?_
    rw [ih (by omega), refIter_y, refIter_f, y_apply, rState, ySeq, projSeq, dif_pos hlt]

/-- After `n` trips every row before `n` holds what the recurrence writes at its step. -/
theorem refIter_out (t : Fin 2048) (b : Fin 32) (h : Fin 512) (n : ℕ) (hn : n ≤ 2048) (ht : t.val < n) :
    (refIter x w bias f n).main_v7_5 (ix3 t b h)
      = rOut (ySeq x w bias b h t.val) (rState (f (ix1 h)) (ySeq x w bias b h) t.val) := by
  induction n with
  | zero => omega
  | succ n ih =>
    have hlt : n < 2048 := by omega
    refine (b35_apply (refIter x w bias f n) ⟨n, hlt⟩ t b h).trans ?_
    by_cases htn : t = ⟨n, hlt⟩
    · subst htn
      rw [if_pos rfl, written_apply, refIter_pair x w bias f b h n (by omega), refIter_y, y_apply, ySeq, projSeq, dif_pos hlt]
    · rw [if_neg htn]
      have : t.val ≠ n := fun e => htn (Fin.ext e)
      exact ih (by omega) (by omega)

/-- The second result: the mean in the first 512 columns. -/
theorem hidden_mean (s : State Ideal) (b : Fin 32) (h : Fin 512) :
    (R_main_v8 s : FVec Ideal S32x1024 .f32) (ix2 b ⟨h.val, by omega⟩) = s.main_v7_3 (ix2 b h) := by
  pointwise [R_main_v8]

/-- The second result: the variance in the last 512 columns. -/
theorem hidden_var (s : State Ideal) (b : Fin 32) (h : Fin 512) :
    (R_main_v8 s : FVec Ideal S32x1024 .f32) (ix2 b ⟨512 + h.val, by omega⟩) = s.main_v7_4 (ix2 b h) := by
  pointwise [R_main_v8]

end Cert.Norm.Ref

end
-- ==== Proof.Entry.lean ====
/- The blocks a grid point reads, as entries of the arguments.

   The region reads the sequence reshaped to 65536 rows, the weight transposed, and the bias and the gate as rows. Point
   `t` reads rows `4096 t` to `4096 t + 4095` of the sequence, which are its rows `128 t` to `128 t + 127` at each of the
   32 batch rows; so a point's projections are the 128 from `128 t` on of the whole sequence of projections. -/
module

public import proofs.«01_k».proof.Proof.Point
public import proofs.«01_k».proof.Proof.Reference
public import Idealize.ShloMosaic.Lib.Pipeline.ValueKit
public import Idealize.ShloMosaic.Lib.Claim

@[expose] public section

noncomputable section

namespace Cert.Norm.Entry

open Idealize.ShloMosaic Idealize.ShloMosaic.TcCoe
open Cert.KernelIdeal Cert.KernelIdeal.Gen Cert.Norm.Blk

variable (m : (ℓ : Loc nD τ sig) → Buf (Elt Ideal) ℓ) (c : Dev nD)

/-- The sequence. -/
abbrev X : FVec Ideal S2048x32x512 .f32 := m ((c : Thread nD τ).loc main_arg0)
/-- The weight. -/
abbrev W : FVec Ideal S512x512 .f32 := m ((c : Thread nD τ).loc main_arg1)
/-- The bias. -/
abbrev B : FVec Ideal S512 .f32 := m ((c : Thread nD τ).loc main_arg2)
/-- The gate. -/
abbrev F : FVec Ideal S512 .f32 := m ((c : Thread nD τ).loc main_arg3)

theorem V_x : V m c main_v0 = (shapeCast S65536x512 (X m c) shapeCasts_S2048x32x512_S65536x512 : FVec Ideal S65536x512 .f32) := by
  entry_read; rfl
theorem V_w : V m c main_v1 = (transpose S512x512 [1, 0] (W m c) transposes_S512x512_S512x512_1_0 : FVec Ideal S512x512 .f32) := by
  entry_read; rfl
theorem V_b : V m c main_v2 = (shapeCast S1x512 (B m c) shapeCasts_S512_S1x512 : FVec Ideal S1x512 .f32) := by
  entry_read; rfl
theorem V_f : V m c main_v3 = (shapeCast S1x512 (F m c) shapeCasts_S512_S1x512 : FVec Ideal S1x512 .f32) := by
  entry_read; rfl

/-- The sequence's rows laid out one after another. -/
theorem flat_apply (x : FVec Ideal S2048x32x512 .f32) (s : Fin 2048) (b : Fin 32) (k : Fin 512) (r : Fin 65536)
    (hr : r.val = 32 * s.val + b.val) :
    (shapeCast S65536x512 x shapeCasts_S2048x32x512_S65536x512 : FVec Ideal S65536x512 .f32) (ix2 r k) = x (ix3 s b k) := by
  pointwise
  have hs : (⟨r.val / 32, by omega⟩ : Fin 2048) = s := Fin.ext (by show r.val / 32 = s.val; omega)
  have hb : (⟨r.val % 32, by omega⟩ : Fin 32) = b := Fin.ext (by show r.val % 32 = b.val; omega)
  rw [hs, hb]

theorem turned_apply (w : FVec Ideal S512x512 .f32) (k h : Fin 512) :
    (transpose S512x512 [1, 0] w transposes_S512x512_S512x512_1_0 : FVec Ideal S512x512 .f32) (ix2 k h) = w (ix2 h k) := by
  pointwise

theorem row_apply (v : FVec Ideal S512 .f32) (h : Fin 512) :
    (shapeCast S1x512 v shapeCasts_S512_S1x512 : FVec Ideal S1x512 .f32) (ix2 (0 : Fin 1) h) = v (ix1 h) := by
  pointwise

variable (t : Fin cfg0.N)

theorem idx : win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 := by
  revert t; decide +kernel

theorem t_lt : t.val < 16 := lt_of_lt_of_eq t.isLt N_0

theorem x_place (r : Fin 4096) (k : Fin 512) :
    iblk m c 0 t (ix2 r k) = V m c main_v0 (ix2 (⟨4096 * t.val + r.val, by have := t_lt t; omega⟩ : Fin 65536) k) := by
  blk_simp [iblk]
  blk_ext [idx t]

theorem w_place (k h : Fin 512) : iblk m c 1 t (ix2 k h) = V m c main_v1 (ix2 k h) := by
  blk_simp [iblk]
  blk_ext [idx t]

theorem b_place (h : Fin 512) : iblk m c 2 t (ix2 (0 : Fin 1) h) = V m c main_v2 (ix2 (0 : Fin 1) h) := by
  blk_simp [iblk]
  blk_ext [idx t]

theorem f_place (h : Fin 512) : iblk m c 3 t (ix2 (0 : Fin 1) h) = V m c main_v3 (ix2 (0 : Fin 1) h) := by
  blk_simp [iblk]
  blk_ext [idx t]

/-- The bias a point reads. -/
theorem bias_read (h : Fin 512) : iblk m c 2 t (ix2 (0 : Fin 1) h) = B m c (ix1 h) := by
  rw [b_place, V_b, row_apply]

/-- The gate a point reads. -/
theorem gate_read (h : Fin 512) : iblk m c 3 t (ix2 (0 : Fin 1) h) = F m c (ix1 h) := by
  rw [f_place, V_f, row_apply]

/-- A point's projections are the 128 from `128 t` on. -/
theorem rows_read (b : Fin 32) (q : Fin 512) (n : ℕ) (hn : n < 128) :
    rows (iblk m c 0 t) (iblk m c 1 t) b q n = Ref.projSeq (X m c) (W m c) b q (128 * t.val + n) := by
  have ht := t_lt t
  rw [rows, dif_pos hn, Ref.projSeq, dif_pos (by omega), rowProj, Ref.proj]
  refine Finset.sum_congr rfl fun k _ => ?_
  rw [x_place, w_place, V_x, V_w, turned_apply,
    flat_apply (X m c) ⟨128 * t.val + n, by omega⟩ b k _ (by show 4096 * t.val + (32 * n + b.val) = 32 * (128 * t.val + n) + b.val; omega)]

end Cert.Norm.Entry

end
-- ==== Proof.Arrays.lean ====
/- What the kernel's two results hold after the run.

   By induction on the grid point, the carried pair at a (batch row, feature) after point `t` is the recurrence's state
   after `128 (t + 1)` steps over the whole sequence of projections (`carried`). Row `n` of the first result is what the
   recurrence writes at step `n` (`result_apply`), and the second result is the last state, its mean plus the bias
   (`hidden_mean`, `hidden_var`). -/
module

public import proofs.«01_k».proof.Proof.Entry
public import proofs.«01_k».proof.Proof.Gen.KernelIdeal.Value

@[expose] public section

noncomputable section

namespace Cert.Norm.Arrays

open Idealize.ShloMosaic Idealize.ShloMosaic.TcCoe
open Cert.KernelIdeal Cert.KernelIdeal.Gen Cert.Norm.Blk Cert.Norm.Entry

variable (m : (ℓ : Loc nD τ sig) → Buf (Elt Ideal) ℓ) (c : Dev nD)

/-- Running `a` steps and then `n` more is running `a + n`. -/
theorem kState_add (f : EReal) (y : ℕ → EReal) (s : Pair) (a n : ℕ) :
    kState f (fun k => y (a + k)) (kState f y s a) n = kState f y s (a + n) := by
  induction n with
  | zero => rfl
  | succ n ih => rw [kState, ih]; rfl

/-- The recurrence's state before step `n`, over the whole sequence. -/
abbrev whole (b : Fin 32) (q : Fin 512) (n : ℕ) : Pair :=
  kState (Entry.F m c (ix1 q)) (Ref.projSeq (X m c) (W m c) b q) (0 - B m c (ix1 q), 1) n

/-- A point that starts at the state before its steps runs the whole recurrence on. -/
theorem state_read (t : Fin cfg0.N) (s₀ : Fin 32 → Fin 512 → Pair) (b : Fin 32) (q : Fin 512)
    (h : s₀ b q = whole m c b q (128 * t.val)) (n : ℕ) (hn : n ≤ 128) :
    stateAt (iblk m c 0 t) (iblk m c 1 t) (iblk m c 3 t) s₀ b q n = whole m c b q (128 * t.val + n) := by
  rw [stateAt, gate_read, h]
  exact (kState_congr _ _ _ _ _ fun k hk => rows_read m c t b q k (by omega)).trans (kState_add _ _ _ _ _)

/-- What point `t` leaves, over the whole sequence. -/
def LeavesAt (t : ℕ) (ht : t < cfg0.N) : Prop :=
  (∀ (n : Fin 128) (b : Fin 32) (q : Fin 512), (outsAt0 m c t ht).1 (ix3 n b q)
      = kOut (Ref.projSeq (X m c) (W m c) b q (128 * t + n.val)) (whole m c b q (128 * t + n.val)))
  ∧ (∀ (b : Fin 32) (q : Fin 512), (outsAt0 m c t ht).2.1 (ix2 b (hidCol 0 q)) = (whole m c b q (128 * t + 128)).1 + B m c (ix1 q))
  ∧ (∀ (b : Fin 32) (q : Fin 512), (outsAt0 m c t ht).2.1 (ix2 b (hidCol 1 q)) = (whole m c b q (128 * t + 128)).2)
  ∧ (∀ (b : Fin 32) (q : Fin 512),
      (((outsAt0 m c t ht).2.2.1 (ix2 b q), (outsAt0 m c t ht).2.2.2 (ix2 b q)) : Pair) = whole m c b q (128 * t + 128))

/-- A point's results over its own start are its results over the whole sequence. -/
theorem leaves_of_point (t : Fin cfg0.N) (s₀ : Fin 32 → Fin 512 → Pair)
    (h : ∀ b q, s₀ b q = whole m c b q (128 * t.val))
    (hp : PointIs (iblk m c 0 t) (iblk m c 1 t) (iblk m c 2 t) (iblk m c 3 t) s₀ (outsAt0 m c t.val t.isLt)) :
    LeavesAt m c t.val t.isLt := by
  obtain ⟨h1, h2, h3, h4⟩ := hp
  refine ⟨fun n b q => ?_, fun b q => ?_, fun b q => ?_, fun b q => ?_⟩
  · rw [h1, state_read m c t s₀ b q (h b q) n.val (by omega), rows_read m c t b q n.val n.isLt]
  · rw [h2, state_read m c t s₀ b q (h b q) 128 le_rfl, bias_read]
  · rw [h3, state_read m c t s₀ b q (h b q) 128 le_rfl]
  · rw [h4, state_read m c t s₀ b q (h b q) 128 le_rfl]

/-- Every point leaves the whole recurrence so far. -/
theorem leaves (t : ℕ) (ht : t < cfg0.N) : LeavesAt m c t ht := by
  induction t with
  | zero =>
    refine leaves_of_point m c ⟨0, ht⟩ _ (fun b q => ?_) (first_point m c ⟨0, ht⟩ rfl)
    show (_ : Pair) = (0 - B m c (ix1 q), 1)
    rw [bias_read]
  | succ t ih =>
    have hN : t + 1 < 16 := lt_of_lt_of_eq ht N_0
    obtain ⟨-, -, -, h4⟩ := ih (by omega)
    exact leaves_of_point m c ⟨t + 1, ht⟩ _ (fun b q => h4 b q)
      (later_point m c ⟨t + 1, ht⟩ (by show ¬(t + 1) % 16 = 0; omega))

/-- Row `n` of the first result is what the recurrence writes at step `n`. -/
theorem result_apply (n : Fin 2048) (b : Fin 32) (q : Fin 512) :
    (Value.G4 m c : FVec Ideal S2048x32x512 .f32) (ix3 n b q)
      = kOut (Ref.projSeq (X m c) (W m c) b q n.val) (whole m c b q n.val) := by
  have hn := n.isLt
  have hp : Value.pt4Of (ix3 n b q) = n.val / 128 := by
    have hb := b.isLt
    have hq := q.isLt
    show 1 * (n.val / 128 - 0) + 1 * (b.val / 32 - 0) + 1 * (q.val / 512 - 0) = n.val / 128
    omega
  have hl : Value.loc4Of (ix3 n b q) = ix3 (⟨n.val % 128, Nat.mod_lt _ (by decide)⟩ : Fin 128) b q := by
    funext a; apply Fin.ext
    match a with
    | ⟨0, _⟩ => rfl
    | ⟨1, _⟩ => show b.val % 32 = b.val; omega
    | ⟨2, _⟩ => show q.val % 512 = q.val; omega
  have ht : n.val / 128 < cfg0.N := lt_of_lt_of_eq (by omega) N_0.symm
  unfold Value.G4
  rw [dif_pos (by rw [hp]; exact ht), hl, Value.fold0_congr m c _ _ (n.val / 128) (by omega) hp,
    ← Value.outsAt0_sweep m c (n.val / 128) ht, (leaves m c (n.val / 128) ht).1]
  have e : 128 * (n.val / 128) + n.val % 128 = n.val := by omega
  show kOut (Ref.projSeq (X m c) (W m c) b q (128 * (n.val / 128) + n.val % 128)) (whole m c b q (128 * (n.val / 128) + n.val % 128)) = _
  rw [e]

/-- The second result is what the last point leaves of it. -/
theorem hidden_eq : (Value.G5 m c : FVec Ideal S32x1024 .f32) = (outsAt0 m c 15 (lt_of_lt_of_eq (by decide) N_0.symm)).2.1 :=
  (Value.G5_last m c).trans (congrArg (fun r => r.2.1) (Value.outsAt0_sweep m c 15 _).symm)

/-- The second result's left half is the last mean plus the bias. -/
theorem hidden_mean (b : Fin 32) (q : Fin 512) :
    (Value.G5 m c : FVec Ideal S32x1024 .f32) (ix2 b (hidCol 0 q)) = (whole m c b q 2048).1 + B m c (ix1 q) := by
  rw [hidden_eq]; exact (leaves m c 15 _).2.1 b q

/-- Its right half is the last variance. -/
theorem hidden_var (b : Fin 32) (q : Fin 512) :
    (Value.G5 m c : FVec Ideal S32x1024 .f32) (ix2 b (hidCol 1 q)) = (whole m c b q 2048).2 := by
  rw [hidden_eq]; exact (leaves m c 15 _).2.2.1 b q

end Cert.Norm.Arrays

end
-- ==== Proof.Precondition.lean ====
/- What the precondition says of the entries.

   Every entry of the sequence, the weight and the bias is a real number, and every gate is a real number in [0, 1]. So
   every projection, a finite sum of products, is real too. -/
module

public import proofs.«01_k».proof.Pre_finite_inputs_gate_in_unit_interval
public import proofs.«01_k».proof.Proof.Reference
public import Idealize.ShloMosaic.Lib.Pointwise

@[expose] public section

noncomputable section

namespace Cert.Norm.Pre

open Idealize.ShloMosaic Cert.Pre_finite_inputs_gate_in_unit_interval

/-- The predicate's broadcasts are all of one number. -/
theorem facts : Facts where
  bcast_S_S512 := ⟨by decide, fun a => a.elim0⟩
  bcast_S_S2048x32x512 := ⟨by decide, fun a => a.elim0⟩
  bcast_S_S512x512 := ⟨by decide, fun a => a.elim0⟩

/-- An extended real whose difference with itself is zero is real. -/
theorem real_of_sub_self (a : EReal) (h : a - a = 0) : ∃ r : ℝ, a = (r : EReal) := by
  induction a with
  | bot => exact absurd h (by decide)
  | coe r => exact ⟨r, rfl⟩
  | top => exact absurd h (by decide)

/-- So is one between 0 and 1, and its real value is between them. -/
theorem real_of_unit (a : EReal) (h0 : 0 ≤ a) (h1 : a ≤ 1) : ∃ r : ℝ, 0 ≤ r ∧ r ≤ 1 ∧ a = (r : EReal) := by
  induction a with
  | bot => exact absurd h0 (by simp)
  | coe r => exact ⟨r, by exact_mod_cast h0, by exact_mod_cast h1, rfl⟩
  | top => exact absurd (top_le_iff.mp h1) (EReal.coe_ne_top 1)

theorem eq_of_oeq (a : EReal) (h : Ideal.cmp .oeq (a - a) (Ideal.ofBits .f32 0x00000000#32) = 1#1) : a - a = 0 := by
  rw [Ideal.ofBits_zero_f32] at h
  exact (Ideal.cmp_oeq_eq_one _ _).mp h

theorem both_of_and (p q : BitVec 1) (h : p &&& q = 1#1) : p = 1#1 ∧ q = 1#1 := by
  revert p q; decide

variable [Facts] (x : FVec Ideal S2048x32x512 .f32) (w : FVec Ideal S512x512 .f32) (bias f : FVec Ideal S512 .f32)

theorem x_real (h : (fn (F := Ideal) x w bias f).1 = fun _ => 1#1) (i : S2048x32x512.Idx) : ∃ r : ℝ, x i = (r : EReal) :=
  real_of_sub_self _ (eq_of_oeq _ (congrFun h i))

theorem w_real (h : (fn (F := Ideal) x w bias f).2.1 = fun _ => 1#1) (i : S512x512.Idx) : ∃ r : ℝ, w i = (r : EReal) :=
  real_of_sub_self _ (eq_of_oeq _ (congrFun h i))

theorem bias_real (h : (fn (F := Ideal) x w bias f).2.2.1 = fun _ => 1#1) (i : S512.Idx) : ∃ r : ℝ, bias i = (r : EReal) :=
  real_of_sub_self _ (eq_of_oeq _ (congrFun h i))

theorem gate_real (h : (fn (F := Ideal) x w bias f).2.2.2 = fun _ => 1#1) (i : S512.Idx) :
    ∃ r : ℝ, 0 ≤ r ∧ r ≤ 1 ∧ f i = (r : EReal) := by
  obtain ⟨h0, h1⟩ := both_of_and (Ideal.cmp .oge (f i) (Ideal.ofBits .f32 0x00000000#32))
    (Ideal.cmp .ole (f i) (Ideal.ofBits .f32 0x3F800000#32)) (congrFun h i)
  rw [Ideal.ofBits_zero_f32] at h0
  rw [Ideal.ofBits_one_f32] at h1
  exact real_of_unit _ ((Ideal.cmp_oge_eq_one _ _).mp h0) ((Ideal.cmp_ole_eq_one _ _).mp h1)

/-- A finite sum of reals, taken in the extended reals, is the real sum. -/
theorem sum_real (s : Finset (Fin 512)) (g : Fin 512 → ℝ) : ((∑ k ∈ s, g k : ℝ) : EReal) = ∑ k ∈ s, (g k : EReal) := by
  induction s using Finset.induction_on with
  | empty => simp
  | insert a s ha ih => rw [Finset.sum_insert ha, Finset.sum_insert ha, EReal.coe_add, ih]

/-- The projections of real entries are real. -/
theorem projSeq_real (hx : ∀ i, ∃ r : ℝ, x i = (r : EReal)) (hw : ∀ i, ∃ r : ℝ, w i = (r : EReal)) (b : Fin 32) (h : Fin 512) :
    ∃ z : ℕ → ℝ, Ref.projSeq x w b h = fun n => (z n : EReal) := by
  choose xr hxr using hx
  choose wr hwr using hw
  refine ⟨fun n => if hn : n < 2048 then ∑ k : Fin 512, xr (ix3 ⟨n, hn⟩ b k) * wr (ix2 h k) else 0, funext fun n => ?_⟩
  by_cases hn : n < 2048
  · simp only [Ref.projSeq, Ref.proj, dif_pos hn, hxr, hwr]
    rw [sum_real]
    exact Finset.sum_congr rfl fun k _ => (EReal.coe_mul _ _).symm
  · simp only [Ref.projSeq, dif_neg hn]
    rfl

end Cert.Norm.Pre

end
-- ==== Proof.Agree.lean ====
/- The kernel's two results are the reference's.

   At every batch row and feature the projections, the bias and the gate are real and the gate is in [0, 1], so the two
   recurrences agree (`Recurrence`): what the kernel writes at a step is what the reference writes, and its last state,
   the bias put back on the mean, is the reference's last state. -/
module

public import proofs.«01_k».proof.Proof.Arrays
public import proofs.«01_k».proof.Proof.Recurrence
public import proofs.«01_k».proof.Proof.Precondition
public import proofs.«01_k».proof.Defs

@[expose] public section

noncomputable section

namespace Cert.Norm.Agree

open Idealize.ShloMosaic Idealize.ShloMosaic.TcCoe
open Cert.KernelIdeal Cert.KernelIdeal.Gen Cert.Norm.Blk Cert.Norm.Entry Cert.Norm.Arrays

variable (m : (ℓ : Loc nD τ sig) → Buf (Elt Ideal) ℓ) (c : Dev nD)

/-- The reference's loop, run over the kernel's arguments. -/
abbrev ref (n : ℕ) := Ref.refIter (X m c) (W m c) (B m c) (F m c) n

/-- What the recurrences need of one batch row and feature. -/
theorem reals [Cert.Pre_finite_inputs_gate_in_unit_interval.Facts]
    (h : Cert.Pre_KernelIdeal_finite_inputs_gate_in_unit_interval m) (b : Fin 32) (q : Fin 512) :
    ∃ (φ β : ℝ) (z : ℕ → ℝ), 0 ≤ φ ∧ φ ≤ 1 ∧ F m c (ix1 q) = (φ : EReal) ∧ B m c (ix1 q) = (β : EReal)
      ∧ Ref.projSeq (X m c) (W m c) b q = fun n => (z n : EReal) := by
  obtain ⟨hx, hw, hb, hf⟩ := h c
  obtain ⟨φ, h0, h1, hφ⟩ := Pre.gate_real (X m c) (W m c) (B m c) (F m c) hf (ix1 q)
  obtain ⟨β, hβ⟩ := Pre.bias_real (X m c) (W m c) (B m c) (F m c) hb (ix1 q)
  obtain ⟨z, hz⟩ := Pre.projSeq_real (X m c) (W m c) (Pre.x_real (X m c) (W m c) (B m c) (F m c) hx)
    (Pre.w_real (X m c) (W m c) (B m c) (F m c) hw) b q
  exact ⟨φ, β, z, h0, h1, hφ, hβ, hz⟩

variable [Cert.Pre_finite_inputs_gate_in_unit_interval.Facts]
  (h : Cert.Pre_KernelIdeal_finite_inputs_gate_in_unit_interval m)

/-- The reference's recurrence reads the projections with the bias added. -/
theorem ySeq_eq (b : Fin 32) (q : Fin 512) (β : ℝ) (z : ℕ → ℝ) (hβ : B m c (ix1 q) = (β : EReal))
    (hz : Ref.projSeq (X m c) (W m c) b q = fun n => (z n : EReal)) :
    Ref.ySeq (X m c) (W m c) (B m c) b q = fun n => (z n : EReal) + (β : EReal) :=
  funext fun n => by rw [Ref.ySeq, hz, hβ]

include h

/-- The last states agree. -/
theorem states (b : Fin 32) (q : Fin 512) :
    ((whole m c b q 2048).1 + B m c (ix1 q), (whole m c b q 2048).2)
      = ((ref m c 2048).main_v7_3 (ix2 b q), (ref m c 2048).main_v7_4 (ix2 b q)) := by
  obtain ⟨φ, β, z, h0, h1, hφ, hβ, hz⟩ := reals m c h b q
  refine Eq.trans ?_ (Ref.refIter_pair (X m c) (W m c) (B m c) (F m c) b q 2048 le_rfl).symm
  rw [ySeq_eq m c b q β z hβ hz, whole, hφ, hβ, hz]
  exact kernel_state_eq h0 h1 2048

/-- What is written at a step agrees. -/
theorem result_entry (n : Fin 2048) (b : Fin 32) (q : Fin 512) :
    (Value.G4 m c) (ix3 n b q) = (ref m c 2048).main_v7_5 (ix3 n b q) := by
  obtain ⟨φ, β, z, h0, h1, hφ, hβ, hz⟩ := reals m c h b q
  refine (result_apply m c n b q).trans (Eq.trans ?_
    (Ref.refIter_out (X m c) (W m c) (B m c) (F m c) n b q 2048 le_rfl n.isLt).symm)
  rw [ySeq_eq m c b q β z hβ hz, whole, hφ, hβ, hz]
  exact kernel_out_eq h0 h1 n.val

/-- The first result. -/
theorem result : Value.G4 m c = (ref m c 2048).main_v7_5 :=
  funext fun i => by
    rw [eq_ix3 i]
    exact result_entry m c h _ _ _

/-- The second result: means in the first 512 columns, variances in the last. -/
theorem hidden : Value.G5 m c = Cert.ReferenceIdeal.Step.R_main_v8 (ref m c 2048) :=
  funext fun i => by
    rw [eq_ix2 i]
    generalize i 0 = b
    generalize i 1 = j
    by_cases hj : j.val < 512
    · have hc : j = hidCol 0 ⟨j.val, hj⟩ := Fin.ext (by change j.val = 512 * 0 + j.val; omega)
      have hr := Ref.hidden_mean (ref m c 2048) b ⟨j.val, hj⟩
      refine Eq.trans ?_ hr.symm
      refine (congrArg (fun k => (Value.G5 m c) (ix2 b k)) hc).trans ?_
      exact (hidden_mean m c b ⟨j.val, hj⟩).trans (Prod.mk.inj (states m c h b ⟨j.val, hj⟩)).1
    · have hlt : j.val - 512 < 512 := by have := j.isLt; change j.val < 1024 at this; omega
      have hc : j = hidCol 1 ⟨j.val - 512, hlt⟩ := Fin.ext (by change j.val = 512 * 1 + (j.val - 512); omega)
      have hr := Ref.hidden_var (ref m c 2048) b ⟨j.val - 512, hlt⟩
      refine (congrArg (fun k => (Value.G5 m c) (ix2 b k)) hc).trans (Eq.trans ?_
        (Eq.symm (congrArg (fun k => Cert.ReferenceIdeal.Step.R_main_v8 (ref m c 2048) (ix2 b k)) hc)))
      refine (hidden_var m c b ⟨j.val - 512, hlt⟩).trans (Eq.trans ?_ hr.symm)
      exact (Prod.mk.inj (states m c h b ⟨j.val - 512, hlt⟩)).2

end Cert.Norm.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Agree
public import proofs.«01_k».proof.Proof.ReferenceRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends, its arguments unchanged; it has no semaphore. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩) (Cert.ReferenceIdeal.Value.run m g)

/-- The reference's run over the kernel's arguments. -/
theorem reference_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = Cert.Norm.Entry.X m c)
    (h1 : m' ((c.tc : Thread Cert.ReferenceIdeal.nD Cert.ReferenceIdeal.τ).loc Cert.ReferenceIdeal.main_arg1) = Cert.Norm.Entry.W m c)
    (h2 : m' ((c.tc : Thread Cert.ReferenceIdeal.nD Cert.ReferenceIdeal.τ).loc Cert.ReferenceIdeal.main_arg2) = Cert.Norm.Entry.B m c)
    (h3 : m' ((c.tc : Thread Cert.ReferenceIdeal.nD Cert.ReferenceIdeal.τ).loc Cert.ReferenceIdeal.main_arg3) = Cert.Norm.Entry.F m c) :
    Cert.Norm.Agree.ref m c 0 = Cert.Norm.RefRun.start m' c := by
  unfold Cert.Norm.RefRun.start
  rw [h0, h1, h2, h3]
  rfl

/-- The two programs' results are equal. -/
theorem results_agree : Cert.algebraic_KernelIdeal_ReferenceIdeal_pre_finite_inputs_gate_in_unit_interval
    (hKernelIdeal := Cert.KernelIdeal.Gen.facts) (hReferenceIdeal := Cert.ReferenceIdeal.Gen.facts)
    (hPre_finite_inputs_gate_in_unit_interval := Cert.Norm.Pre.facts) := fun m g m' g' hpre hargs => by
  haveI := Cert.Norm.Pre.facts
  refine ⟨fun c => Cert.KernelIdeal.Value.G4 m c, fun c => Cert.KernelIdeal.Value.G5 m c, Cert.KernelIdeal.Value.run m g, ?_⟩
  refine (θ_run Cert.ReferenceIdeal.defs _ _).mono (fun r h c => ?_)
    (Cert.Norm.RefRun.run_states m' g' (fun c n => Cert.Norm.Agree.ref m c n)
      (fun c => reference_results m m' c (hargs c).1 (hargs c).2.1 (hargs c).2.2.1 (hargs c).2.2.2) (fun _ _ => rfl))
  obtain ⟨hout, hhid, hkept⟩ := h c
  exact ⟨hout.trans (Cert.Norm.Agree.result m c hpre).symm, hhid.trans (Cert.Norm.Agree.hidden m c hpre).symm, hkept⟩

/-- The certificate's claim. -/
theorem claim : Cert.Claim :=
  ⟨Cert.Kernel.Gen.facts, Cert.KernelIdeal.Gen.facts, Cert.ReferenceIdeal.Gen.facts, Cert.Norm.Pre.facts,
    fun m g _ => Cert.Kernel.Gen.frame m g, fun m g _ => Cert.KernelIdeal.Gen.frame m g,
    fun m g _ => Cert.KernelIdeal.Gen.frame m g, reference_frame, fun m g _ => reference_frame m g trivial, trivial,
    results_agree⟩

end Cert.Proof

end
